-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S8192x4096 : Shape := ⟨2, ![8192, 4096]⟩
abbrev S_ : Shape := ⟨0, ![]⟩
abbrev S1 : Shape := ⟨1, ![1]⟩
abbrev S8192x1024 : Shape := ⟨2, ![8192, 1024]⟩
abbrev S3x2048x1024 : Shape := ⟨3, ![3, 2048, 1024]⟩
abbrev S2048x1024 : Shape := ⟨2, ![2048, 1024]⟩
abbrev S1024x1024 : Shape := ⟨2, ![1024, 1024]⟩
abbrev S4 : Shape := ⟨1, ![4]⟩
abbrev S1x2048x1024 : Shape := ⟨3, ![1, 2048, 1024]⟩

abbrev nBuf : Space → Nat
  | .hbm => 10
  | .vmem => 6
  | .smem => 1
  | _ => 0

abbrev bufTy : (tb : Table) → Fin (tcTables nBuf tb) → BufTy
  | .hbm, ⟨0, _⟩ => ⟨S2048x8192, .f32⟩
  | .hbm, ⟨1, _⟩ => ⟨S8192x4096, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8192x1024, .f32⟩
  | .hbm, ⟨9, _⟩ => ⟨S3x2048x1024, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .bf16⟩
  | .local _ .smem, ⟨0, _⟩ => ⟨S1, .i32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v6_0 : Ref sig .tc := ⟨.hbm, 8, rfl⟩
abbrev main_v6_1 : Ref sig .tc := ⟨.hbm, 9, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 4
abbrev τ : Topo := Topo.v7x

variable {F : FTy → Type} [FloatOps F]

abbrev grid0 : Pipeline.Grid := ⟨2, ![4, 8], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_10 : BitVec 32 := 0#32
  let v20 : BitVec 1 := Scalar.cmpi .eq arg0 c0_i32_10
  let arg1 : BitVec 32 := BitVec.ofNat 32 (i 1).val
  let c0_i32_11 : BitVec 32 := 0#32
  let v21 : BitVec 1 := Scalar.cmpi .eq arg1 c0_i32_11
  let v22 : BitVec 1 := Scalar.andi v20 v21
  let v23 : BitVec 32 := Scalar.extui v22
  let c0_i32_12 : BitVec 32 := 0#32
  let v24 : BitVec 1 := Scalar.cmpi .ne v23 c0_i32_12
  v24

def k0_dev1 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_26 : BitVec 32 := 1#32
  let v47 : BitVec 32 := Scalar.addi v2 c1_i32_26
  let c4_i32_27 : BitVec 32 := 4#32
  let c0_i32_28 : BitVec 32 := 0#32
  let v48 : BitVec 1 := Scalar.cmpi .eq c4_i32_27 c0_i32_28
  let c1_i32_29 : BitVec 32 := 1#32
  let v49 : BitVec 32 := Scalar.select v48 c1_i32_29 c4_i32_27
  let v50 : BitVec 32 := Scalar.remsi v47 v49
  let c0_i32_31 : BitVec 32 := 0#32
  let v52 : BitVec 1 := Scalar.cmpi .slt v50 c0_i32_31
  let c0_i32_32 : BitVec 32 := 0#32
  let v53 : BitVec 1 := Scalar.cmpi .slt v49 c0_i32_32
  let v54 : BitVec 1 := Scalar.xori v52 v53
  let c0_i32_30 : BitVec 32 := 0#32
  let v51 : BitVec 1 := Scalar.cmpi .ne v50 c0_i32_30
  let v55 : BitVec 1 := Scalar.andi v54 v51
  let v56 : BitVec 32 := Scalar.addi v50 v49
  let v57 : BitVec 32 := Scalar.select v55 v56 v50
  let c1_i32_34 : BitVec 32 := 1#32
  let v58 : BitVec 32 := Scalar.muli v57 c1_i32_34
  let v59 : BitVec 32 := Scalar.addi c0_i32_35 v58
  v59.toNat
def k0_dev2 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_36 : BitVec 32 := 2#32
  let v60 : BitVec 32 := Scalar.addi v2 c2_i32_36
  let c4_i32_37 : BitVec 32 := 4#32
  let c0_i32_38 : BitVec 32 := 0#32
  let v61 : BitVec 1 := Scalar.cmpi .eq c4_i32_37 c0_i32_38
  let c1_i32_39 : BitVec 32 := 1#32
  let v62 : BitVec 32 := Scalar.select v61 c1_i32_39 c4_i32_37
  let v63 : BitVec 32 := Scalar.remsi v60 v62
  let c0_i32_41 : BitVec 32 := 0#32
  let v65 : BitVec 1 := Scalar.cmpi .slt v63 c0_i32_41
  let c0_i32_42 : BitVec 32 := 0#32
  let v66 : BitVec 1 := Scalar.cmpi .slt v62 c0_i32_42
  let v67 : BitVec 1 := Scalar.xori v65 v66
  let c0_i32_40 : BitVec 32 := 0#32
  let v64 : BitVec 1 := Scalar.cmpi .ne v63 c0_i32_40
  let v68 : BitVec 1 := Scalar.andi v67 v64
  let v69 : BitVec 32 := Scalar.addi v63 v62
  let v70 : BitVec 32 := Scalar.select v68 v69 v63
  let c1_i32_44 : BitVec 32 := 1#32
  let v71 : BitVec 32 := Scalar.muli v70 c1_i32_44
  let v72 : BitVec 32 := Scalar.addi c0_i32_45 v71
  v72.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_46 : BitVec 32 := 3#32
  let v73 : BitVec 32 := Scalar.addi v2 c3_i32_46
  let c4_i32_47 : BitVec 32 := 4#32
  let c0_i32_48 : BitVec 32 := 0#32
  let v74 : BitVec 1 := Scalar.cmpi .eq c4_i32_47 c0_i32_48
  let c1_i32_49 : BitVec 32 := 1#32
  let v75 : BitVec 32 := Scalar.select v74 c1_i32_49 c4_i32_47
  let v76 : BitVec 32 := Scalar.remsi v73 v75
  let c0_i32_51 : BitVec 32 := 0#32
  let v78 : BitVec 1 := Scalar.cmpi .slt v76 c0_i32_51
  let c0_i32_52 : BitVec 32 := 0#32
  let v79 : BitVec 1 := Scalar.cmpi .slt v75 c0_i32_52
  let v80 : BitVec 1 := Scalar.xori v78 v79
  let c0_i32_50 : BitVec 32 := 0#32
  let v77 : BitVec 1 := Scalar.cmpi .ne v76 c0_i32_50
  let v81 : BitVec 1 := Scalar.andi v80 v77
  let v82 : BitVec 32 := Scalar.addi v76 v75
  let v83 : BitVec 32 := Scalar.select v81 v82 v76
  let c1_i32_54 : BitVec 32 := 1#32
  let v84 : BitVec 32 := Scalar.muli v83 c1_i32_54
  let v85 : BitVec 32 := Scalar.addi c0_i32_55 v84
  v85.toNat
def k0_cond3 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_22 : BitVec 32 := 0#32
  let v40 : BitVec 1 := Scalar.cmpi .ne v39 c0_i32_22
  v40

def k0_cond4 (i : grid0.Coords) (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c0_i32 : BitVec 32 := 0#32
  let v3 : BitVec 1 := Scalar.cmpi .eq arg0 c0_i32
  let c2_i32_3 : BitVec 32 := 2#32
  let c1_i32_0 : BitVec 32 := 1#32
  let v4 : BitVec 1 := Scalar.cmpi .eq arg0 c1_i32_0
  let c1_i32_2 : BitVec 32 := 1#32
  let c2_i32 : BitVec 32 := 2#32
  let v5 : BitVec 1 := Scalar.cmpi .eq arg0 c2_i32
  let c3_i32 : BitVec 32 := 3#32
  let c0_i32_1 : BitVec 32 := 0#32
  let v6 : BitVec 32 := Scalar.select v5 c3_i32 c0_i32_1
  let v7 : BitVec 32 := Scalar.select v4 c1_i32_2 v6
  let v8 : BitVec 32 := Scalar.select v3 c2_i32_3 v7
  let v9 : BitVec 32 := Scalar.addi v2 v8
  let c4_i32_4 : BitVec 32 := 4#32
  let c0_i32_5 : BitVec 32 := 0#32
  let v10 : BitVec 1 := Scalar.cmpi .eq c4_i32_4 c0_i32_5
  let c1_i32_6 : BitVec 32 := 1#32
  let v11 : BitVec 32 := Scalar.select v10 c1_i32_6 c4_i32_4
  let v12 : BitVec 32 := Scalar.remsi v9 v11
  let c0_i32_8 : BitVec 32 := 0#32
  let v14 : BitVec 1 := Scalar.cmpi .slt v12 c0_i32_8
  let c0_i32_9 : BitVec 32 := 0#32
  let v15 : BitVec 1 := Scalar.cmpi .slt v11 c0_i32_9
  let v16 : BitVec 1 := Scalar.xori v14 v15
  let c0_i32_7 : BitVec 32 := 0#32
  let v13 : BitVec 1 := Scalar.cmpi .ne v12 c0_i32_7
  let v17 : BitVec 1 := Scalar.andi v16 v13
  let v18 : BitVec 32 := Scalar.addi v12 v11
  let v19 : BitVec 32 := Scalar.select v17 v18 v12
  let v60 : BitVec 1 := Scalar.cmpi .ne v19 v2
  let v61 : BitVec 32 := Scalar.extui v60
  let c0_i32_32 : BitVec 32 := 0#32
  let v62 : BitVec 1 := Scalar.cmpi .ne v61 c0_i32_32
  v62

def k0_cond5 (i : grid0.Coords) : BitVec 1 :=
  let arg0 : BitVec 32 := BitVec.ofNat 32 (i 0).val
  let c1_i32_34 : BitVec 32 := 1#32
  let v66 : BitVec 1 := Scalar.cmpi .sge arg0 c1_i32_34
  let v67 : BitVec 32 := Scalar.extui v66
  let c0_i32_35 : BitVec 32 := 0#32
  let v68 : BitVec 1 := Scalar.cmpi .ne v67 c0_i32_35
  v68

def k0_off1 (i : grid0.Coords) : Fin 1 → Nat :=
  let arg0 : BitVec 32 := BitVec.ofNat 32 (i 0).val
  let c1_i32_42 : BitVec 32 := 1#32
  let v81 : BitVec 32 := Scalar.subi arg0 c1_i32_42
  ![v81.toNat]
def k0_off2 (i : grid0.Coords) : Fin 1 → Nat :=
  let arg0 : BitVec 32 := BitVec.ofNat 32 (i 0).val
  ![arg0.toNat]
def k0_off3 (i : grid0.Coords) : Fin 3 → Nat :=
  let arg0 : BitVec 32 := BitVec.ofNat 32 (i 0).val
  let c0_i32_40 : BitVec 32 := 0#32
  let c0_i32_41 : BitVec 32 := 0#32
  ![arg0.toNat, 0, 0]
def k0_dev4 (i : grid0.Coords) (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c0_i32 : BitVec 32 := 0#32
  let v3 : BitVec 1 := Scalar.cmpi .eq arg0 c0_i32
  let c2_i32_3 : BitVec 32 := 2#32
  let c1_i32_0 : BitVec 32 := 1#32
  let v4 : BitVec 1 := Scalar.cmpi .eq arg0 c1_i32_0
  let c1_i32_2 : BitVec 32 := 1#32
  let c2_i32 : BitVec 32 := 2#32
  let v5 : BitVec 1 := Scalar.cmpi .eq arg0 c2_i32
  let c3_i32 : BitVec 32 := 3#32
  let c0_i32_1 : BitVec 32 := 0#32
  let v6 : BitVec 32 := Scalar.select v5 c3_i32 c0_i32_1
  let v7 : BitVec 32 := Scalar.select v4 c1_i32_2 v6
  let v8 : BitVec 32 := Scalar.select v3 c2_i32_3 v7
  let v9 : BitVec 32 := Scalar.addi v2 v8
  let c4_i32_4 : BitVec 32 := 4#32
  let c0_i32_5 : BitVec 32 := 0#32
  let v10 : BitVec 1 := Scalar.cmpi .eq c4_i32_4 c0_i32_5
  let c1_i32_6 : BitVec 32 := 1#32
  let v11 : BitVec 32 := Scalar.select v10 c1_i32_6 c4_i32_4
  let v12 : BitVec 32 := Scalar.remsi v9 v11
  let c0_i32_8 : BitVec 32 := 0#32
  let v14 : BitVec 1 := Scalar.cmpi .slt v12 c0_i32_8
  let c0_i32_9 : BitVec 32 := 0#32
  let v15 : BitVec 1 := Scalar.cmpi .slt v11 c0_i32_9
  let v16 : BitVec 1 := Scalar.xori v14 v15
  let c0_i32_7 : BitVec 32 := 0#32
  let v13 : BitVec 1 := Scalar.cmpi .ne v12 c0_i32_7
  let v17 : BitVec 1 := Scalar.andi v16 v13
  let v18 : BitVec 32 := Scalar.addi v12 v11
  let v19 : BitVec 32 := Scalar.select v17 v18 v12
  let c1_i32_38 : BitVec 32 := 1#32
  let v73 : BitVec 32 := Scalar.muli v19 c1_i32_38
  let v74 : BitVec 32 := Scalar.addi c0_i32_39 v73
  v74.toNat
def k0_cond6 (i : grid0.Coords) (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c0_i32 : BitVec 32 := 0#32
  let v3 : BitVec 1 := Scalar.cmpi .eq arg0 c0_i32
  let c2_i32_3 : BitVec 32 := 2#32
  let c1_i32_0 : BitVec 32 := 1#32
  let v4 : BitVec 1 := Scalar.cmpi .eq arg0 c1_i32_0
  let c1_i32_2 : BitVec 32 := 1#32
  let c2_i32 : BitVec 32 := 2#32
  let v5 : BitVec 1 := Scalar.cmpi .eq arg0 c2_i32
  let c3_i32 : BitVec 32 := 3#32
  let c0_i32_1 : BitVec 32 := 0#32
  let v6 : BitVec 32 := Scalar.select v5 c3_i32 c0_i32_1
  let v7 : BitVec 32 := Scalar.select v4 c1_i32_2 v6
  let v8 : BitVec 32 := Scalar.select v3 c2_i32_3 v7
  let v9 : BitVec 32 := Scalar.addi v2 v8
  let c4_i32_4 : BitVec 32 := 4#32
  let c0_i32_5 : BitVec 32 := 0#32
  let v10 : BitVec 1 := Scalar.cmpi .eq c4_i32_4 c0_i32_5
  let c1_i32_6 : BitVec 32 := 1#32
  let v11 : BitVec 32 := Scalar.select v10 c1_i32_6 c4_i32_4
  let v12 : BitVec 32 := Scalar.remsi v9 v11
  let c0_i32_8 : BitVec 32 := 0#32
  let v14 : BitVec 1 := Scalar.cmpi .slt v12 c0_i32_8
  let c0_i32_9 : BitVec 32 := 0#32
  let v15 : BitVec 1 := Scalar.cmpi .slt v11 c0_i32_9
  let v16 : BitVec 1 := Scalar.xori v14 v15
  let c0_i32_7 : BitVec 32 := 0#32
  let v13 : BitVec 1 := Scalar.cmpi .ne v12 c0_i32_7
  let v17 : BitVec 1 := Scalar.andi v16 v13
  let v18 : BitVec 32 := Scalar.addi v12 v11
  let v19 : BitVec 32 := Scalar.select v17 v18 v12
  let v63 : BitVec 1 := Scalar.cmpi .eq v19 v2
  let v64 : BitVec 32 := Scalar.extui v63
  let c0_i32_33 : BitVec 32 := 0#32
  let v65 : BitVec 1 := Scalar.cmpi .ne v64 c0_i32_33
  v65

def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v69 : BitVec 32 := Scalar.muli v2 c2048_i32
  let c0_i32_36 : BitVec 32 := 0#32
  ![v69.toNat, 0]
def k0_cond7 (i : grid0.Coords) : BitVec 1 :=
  let arg0 : BitVec 32 := BitVec.ofNat 32 (i 0).val
  let c3_i32_23 : BitVec 32 := 3#32
  let v41 : BitVec 1 := Scalar.cmpi .eq arg0 c3_i32_23
  let arg1 : BitVec 32 := BitVec.ofNat 32 (i 1).val
  let c7_i32_24 : BitVec 32 := 7#32
  let v42 : BitVec 1 := Scalar.cmpi .eq arg1 c7_i32_24
  let v43 : BitVec 1 := Scalar.andi v41 v42
  let v44 : BitVec 32 := Scalar.extui v43
  let c0_i32_25 : BitVec 32 := 0#32
  let v45 : BitVec 1 := Scalar.cmpi .ne v44 c0_i32_25
  v45

def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v46 : BitVec 32 := Scalar.muli v2 c2048_i32
  let c0_i32_26 : BitVec 32 := 0#32
  ![v46.toNat, 0]
def k0_off6 (d0 : Dev nD) (c2_i32_40 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v63 : BitVec 32 := Scalar.subi v2 c2_i32_40
  let c4_i32_41 : BitVec 32 := 4#32
  let c0_i32_42 : BitVec 32 := 0#32
  let v64 : BitVec 1 := Scalar.cmpi .eq c4_i32_41 c0_i32_42
  let c1_i32_43 : BitVec 32 := 1#32
  let v65 : BitVec 32 := Scalar.select v64 c1_i32_43 c4_i32_41
  let v66 : BitVec 32 := Scalar.remsi v63 v65
  let c0_i32_45 : BitVec 32 := 0#32
  let v68 : BitVec 1 := Scalar.cmpi .slt v66 c0_i32_45
  let c0_i32_46 : BitVec 32 := 0#32
  let v69 : BitVec 1 := Scalar.cmpi .slt v65 c0_i32_46
  let v70 : BitVec 1 := Scalar.xori v68 v69
  let c0_i32_44 : BitVec 32 := 0#32
  let v67 : BitVec 1 := Scalar.cmpi .ne v66 c0_i32_44
  let v71 : BitVec 1 := Scalar.andi v70 v67
  let v72 : BitVec 32 := Scalar.addi v66 v65
  let v73 : BitVec 32 := Scalar.select v71 v72 v66
  let c2048_i32_64 : BitVec 32 := 2048#32
  let v89 : BitVec 32 := Scalar.muli v73 c2048_i32_64
  let c0_i32_65 : BitVec 32 := 0#32
  ![v89.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c1_i32 : BitVec 32 := 1#32
  let v2 : BitVec 1 := Scalar.cmpi .eq arg0 c1_i32
  let c2_i32 : BitVec 32 := 2#32
  let v3 : BitVec 1 := Scalar.cmpi .eq arg0 c2_i32
  let c3_i32 : BitVec 32 := 3#32
  let c0_i32_0 : BitVec 32 := 0#32
  let v4 : BitVec 32 := Scalar.select v3 c3_i32 c0_i32_0
  let c1_i32_1 : BitVec 32 := 1#32
  let v5 : BitVec 32 := Scalar.select v2 c1_i32_1 v4
  let c2_i32_2 : BitVec 32 := 2#32
  let v6 : BitVec 32 := Scalar.select v1 c2_i32_2 v5
  let v7 : BitVec 32 := Scalar.addi v0 v6
  let c4_i32 : BitVec 32 := 4#32
  let c0_i32_3 : BitVec 32 := 0#32
  let v8 : BitVec 1 := Scalar.cmpi .eq c4_i32 c0_i32_3
  let c1_i32_4 : BitVec 32 := 1#32
  let v9 : BitVec 32 := Scalar.select v8 c1_i32_4 c4_i32
  let v10 : BitVec 32 := Scalar.remsi v7 v9
  let c0_i32_5 : BitVec 32 := 0#32
  let v11 : BitVec 1 := Scalar.cmpi .ne v10 c0_i32_5
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let v15 : BitVec 1 := Scalar.andi v14 v11
  let v16 : BitVec 32 := Scalar.addi v10 v9
  let v17 : BitVec 32 := Scalar.select v15 v16 v10
  let c0_i32_8 : BitVec 32 := 0#32
  ![arg1.toNat, v17.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/-
  The protocol of the ring of copies.

  Device `c` works in four phases. In phases 0, 1, 2 it computes the block that device `tgt p c` wants and copies it
  into slot `p` of that device's receive buffer; in phase 3 it computes its own block. Its slot `p` is written by
  device `src p c`.

  * Barrier cell of `c`: one round, three units, unit `p` paid by `tgt p c`. It hands over slot `p` of that device,
    at contents not chosen, and that round 0 of that device's receive cell `p` is reached. `c` waits for all three.
  * Send cell `p` of `c`: one round, paid by the copy of phase `p` when the staging buffer is read; it hands the
    staging buffer back. `c` waits for it before it writes the staging buffer again, or at the end.
  * Receive cell `p` of `c`: one round, paid by the copy of `src p c`; it hands slot `p` of `c` back, at what
    `src p c` sent. `c` waits for it at the end.
  * The semaphore of the local copies is waited for right after each of them, within one grid point.
-/
module

public import proofs.«01_k».proof.Proof.Gen.KernelIdeal.Skeleton
public import proofs.«01_k».proof.Proof.Gen.KernelIdeal.Launch

@[expose] public section

set_option maxRecDepth 16384

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra: the pipeline's copy and the protocol's -/

/-- The duties of a round: a barrier round has three. -/
abbrev Du : Type := Fin 3
/-- The pipeline's rounds, the protocol's rounds, and the counters the local copies draw their tokens from. -/
abbrev UU : Type := UR sig nD τ × (URounds (GSem nD τ sig) Du × Counters)
abbrev MM (F : FTy → Type) : Type := MT nD τ sig Unit (Elt F) ℕ UU ℕ
abbrev EP : Emb (UR sig nD τ) (MM F) := embL
abbrev ER : Emb (URounds (GSem nD τ sig) Du) (MM F) := (Emb.inl : Emb (URounds (GSem nD τ sig) Du) (URounds (GSem nD τ sig) Du × Counters)).trans embR
abbrev EC : UEmb Counters (MM F) := countersEmb (U := UU)
abbrev 𝒱₀ : Variants := Variants.none

/-! ## Devices, semaphores, buffers -/

/-- How far phase `p`'s target is. -/
abbrev dist : Fin 3 → Fin 4 := ![2, 1, 3]
/-- The device whose slot `p` device `c` writes, and the device that writes `c`'s slot `p`. -/
def tgt (p : Fin 3) (c : Dev nD) : Dev nD := c + dist p
def src (p : Fin 3) (c : Dev nD) : Dev nD := c - dist p
theorem src_tgt (p : Fin 3) (c : Dev nD) : src p (tgt p c) = c := by revert p c; decide
theorem tgt_src (p : Fin 3) (c : Dev nD) : tgt p (src p c) = c := by revert p c; decide
theorem tgt_ne (p : Fin 3) (c : Dev nD) : tgt p c ≠ c := by revert p c; decide
def ring (p : Fin 3) : Dev nD ≃ Dev nD := ⟨tgt p, src p, src_tgt p, tgt_src p⟩

abbrev barS : Sem sig := sig.barrier 0 rfl
abbrev sendS (p : Fin 3) : DmaSem sig := ⟨4 + p.val, by have := p.isLt; show _ < 13; omega⟩
abbrev recvS (p : Fin 3) : DmaSem sig := ⟨8 + p.val, by have := p.isLt; show _ < 13; omega⟩
abbrev locS : DmaSem sig := ⟨12, by decide⟩

abbrev barCell (c : Dev nD) : GSem nD τ sig := ((c : Thread nD τ), .reg barS)
abbrev sendCell (p : Fin 3) (c : Dev nD) : GSem nD τ sig := ((c : Thread nD τ), .dma (sendS p))
abbrev recvCell (p : Fin 3) (c : Dev nD) : GSem nD τ sig := ((c : Thread nD τ), .dma (recvS p))
abbrev locCell (c : Dev nD) : GSem nD τ sig := ((c : Thread nD τ), .dma locS)

abbrev accM : Memref sig .tc .vmem S2048x1024 .f32 := Memref.whole cc0_scratch0
abbrev stgM : Memref sig .tc .vmem S2048x1024 .bf16 := Memref.whole cc0_scratch1
abbrev outM : Memref sig .tc .hbm S8192x1024 .f32 := Memref.whole main_v6_0
abbrev landM : Memref sig .tc .hbm S3x2048x1024 .bf16 := Memref.whole main_v6_1

theorem slot_inb (p : Fin 3) : ∀ a, (![p.val, 0, 0] : Fin 3 → Nat) a + S1x2048x1024.size a ≤ S3x2048x1024.size a := by
  revert p; decide
/-- Slot `p` of the receive buffer. -/
abbrev slotM (p : Fin 3) : Memref sig .tc .hbm S2048x1024 .bf16 :=
  (landM.slice (Rect.unit (s := S3x2048x1024) ![p.val, 0, 0] S1x2048x1024.size (slot_inb p)) (fun _ => rfl)).squeeze S2048x1024
    squeezes_S1x2048x1024_S2048x1024

/-- What one block of bf16 credits. -/
abbrev N : ℕ := stgM.view.dmaCredit
theorem N_pos : 0 < N := View.dmaCredit_pos _ (by decide)
theorem slot_credit (p : Fin 3) : (slotM p).view.dmaCredit = N := by rfl

/-- Slot `p` of device `c` at the contents `f` of the whole buffer. -/
abbrev slotPts (p : Fin 3) (c : Dev nD) (f : Buf (Elt F) ((slotM p).view.loc (c : Thread nD τ))) : sProp (MM F) :=
  (slotM p).view.loc (c : Thread nD τ) ↦[(slotM p).view.set]{fullShare} f
/-- Slot `p` of device `c`, holding the block `v`. -/
def slotAt (p : Fin 3) (c : Dev nD) (v : S2048x1024.Idx → Elt F .bf16) : sProp (MM F) :=
  iprop(∃ f, ⌜(slotM p).view.read (Elt F) f = v⌝ ∗ slotPts p c f)
/-- The accumulator, the staging buffer, at contents. -/
abbrev accPts (c : Dev nD) (f : S2048x1024.Idx → Elt F .f32) : sProp (MM F) := ((c : Thread nD τ).loc cc0_scratch0) ↦{fullShare} f
abbrev stgPts (c : Dev nD) (f : S2048x1024.Idx → Elt F .bf16) : sProp (MM F) := ((c : Thread nD τ).loc cc0_scratch1) ↦{fullShare} f
abbrev outPts (c : Dev nD) (f : S8192x1024.Idx → Elt F .f32) : sProp (MM F) := ((c : Thread nD τ).loc main_v6_0) ↦{fullShare} f

/-! ## The schedule -/

/-- What every device sends in each of the three phases. -/
abbrev Sent (F : FTy → Type) : Type := Fin 3 → Dev nD → S2048x1024.Idx → Elt F .bf16

variable (S : Sent F)

def barPay (p : Fin 3) (c : Dev nD) : sProp (MM F) := iprop((∃ f, slotPts p (tgt p c) f) ∗ reached ER (recvCell p (tgt p c)) 0)
def sendPay (p : Fin 3) (c : Dev nD) : sProp (MM F) := stgPts c (S p c)
def recvPay (p : Fin 3) (c : Dev nD) : sProp (MM F) := slotAt p c (S p (src p c))

/-- Which kind of cell a semaphore is: `0` none, `1` the barrier, `2 + p` the send cell `p`, `5 + p` the receive cell `p`. -/
def kind : SemLoc sig → Fin 8
  | .reg _ => 1
  | .dma q => ![0, 0, 0, 0, 2, 3, 4, 0, 5, 6, 7, 0, 0] q

theorem kind_send (p : Fin 3) : kind (.dma (sendS p)) = ![2, 3, 4] p := by revert p; decide
theorem kind_recv (p : Fin 3) : kind (.dma (recvS p)) = ![5, 6, 7] p := by revert p; decide

def payOf (k : Fin 8) (d : Du) (c : Dev nD) : sProp (MM F) :=
  match k with
  | 1 => barPay d c
  | 2 => sendPay S 0 c
  | 3 => sendPay S 1 c
  | 4 => sendPay S 2 c
  | 5 => recvPay S 0 c
  | 6 => recvPay S 1 c
  | 7 => recvPay S 2 c
  | _ => iprop(emp)

def dutyOf (k : Fin 8) : Finset Du := if k = 0 then ∅ else if k = 1 then Finset.univ else {0}

def Rd : Rounds.Schedule (GSem nD τ sig) Du (MM F) where
  duties g r := if r = 0 ∧ g.1.2 = .tc then dutyOf (kind g.2) else ∅
  unitless _ := False
  amount g _ _ := if kind g.2 = 1 then 1 else N
  payload g _ d := payOf S (kind g.2) d g.1.1
  amount_pos g _ _ _ := by
    by_cases h : kind g.2 = 1
    · rw [if_pos h]; exact Nat.one_pos
    · rw [if_neg h]; exact N_pos

instance payOf_storable (k : Fin 8) (d : Du) (c : Dev nD) : BI.Storable (upEmb : UEmb _ (MM F)) (payOf S k d c) := by
  unfold payOf
  split <;> (try unfold barPay) <;> (try unfold sendPay) <;> (try unfold recvPay slotAt) <;> infer_instance

instance Rd_payload_storable (g : GSem nD τ sig) (r : ℕ) (d : Du) : BI.Storable (upEmb : UEmb _ (MM F)) ((Rd S).payload g r d) :=
  payOf_storable S (kind g.2) d g.1.1

section Tables

variable (p : Fin 3) (c : Dev nD)

theorem duties_bar : (Rd S).duties (barCell c) 0 = Finset.univ := rfl
theorem duties_send : (Rd S).duties (sendCell p c) 0 = {0} := by fin_cases p <;> rfl
theorem duties_recv : (Rd S).duties (recvCell p c) 0 = {0} := by fin_cases p <;> rfl
theorem duties_later (g : GSem nD τ sig) : ∀ r, 1 ≤ r → (Rd S).duties g r = ∅ := fun r hr => if_neg fun h => by omega
theorem amount_bar (d : Du) : (Rd S).amount (barCell c) 0 d = 1 := rfl
theorem amount_send (d : Du) : (Rd S).amount (sendCell p c) 0 d = N :=
  if_neg (show kind (.dma (sendS p)) ≠ 1 by revert p; decide)
theorem amount_recv (d : Du) : (Rd S).amount (recvCell p c) 0 d = N :=
  if_neg (show kind (.dma (recvS p)) ≠ 1 by revert p; decide)
theorem expect_bar : (Rd S).expect (barCell c) 0 = 3 := by
  unfold Schedule.expect Schedule.amountOf; rw [duties_bar]; rfl
theorem expect_send : (Rd S).expect (sendCell p c) 0 = N := by
  unfold Schedule.expect Schedule.amountOf; rw [duties_send, Finset.sum_singleton, amount_send]
theorem expect_recv : (Rd S).expect (recvCell p c) 0 = N := by
  unfold Schedule.expect Schedule.amountOf; rw [duties_recv, Finset.sum_singleton, amount_recv]
theorem payload_bar (d : Du) : (Rd S).payload (barCell c) 0 d = barPay d c := rfl
theorem payload_send (d : Du) : (Rd S).payload (sendCell p c) 0 d = sendPay S p c := by fin_cases p <;> rfl
theorem payload_recv (d : Du) : (Rd S).payload (recvCell p c) 0 d = recvPay S p c := by fin_cases p <;> rfl

theorem rest_bar : bigSep ((Rd S).duties (barCell c) 0 \ ∅) (fun d => (Rd S).payload (barCell c) 0 d)
    = iprop(barPay 0 c ∗ barPay 1 c ∗ barPay 2 c) := by
  rw [Finset.sdiff_empty, duties_bar]
  exact bigSep_univ_eq_bigSepL [0, 1, 2] (by decide) (by decide) _
theorem rest_send : bigSep ((Rd S).duties (sendCell p c) 0 \ ∅) (fun d => (Rd S).payload (sendCell p c) 0 d) = sendPay S p c := by
  rw [Finset.sdiff_empty, duties_send, bigSep_singleton, payload_send]
theorem rest_recv : bigSep ((Rd S).duties (recvCell p c) 0 \ ∅) (fun d => (Rd S).payload (recvCell p c) 0 d) = recvPay S p c := by
  rw [Finset.sdiff_empty, duties_recv, bigSep_singleton, payload_recv]

end Tables

/-! ## What a device owes, and the levels -/

/-- What device `c` owes once its three barrier units are paid and the phases below `s` have sent: the receive credits of
    the remaining phases. -/
def owe (c : Dev nD) : ℕ → CellTallies nD τ sig Unit
  | 0 => tallyAt (recvCell 2 (tgt 2 c)) () N + tallyAt (recvCell 1 (tgt 1 c)) () N + tallyAt (recvCell 0 (tgt 0 c)) () N
  | 1 => tallyAt (recvCell 2 (tgt 2 c)) () N + tallyAt (recvCell 1 (tgt 1 c)) () N
  | 2 => tallyAt (recvCell 2 (tgt 2 c)) () N
  | _ => 0

theorem owe_0 (c : Dev nD) : owe c 0
    = tallyAt (recvCell 2 (tgt 2 c)) () N + tallyAt (recvCell 1 (tgt 1 c)) () N + tallyAt (recvCell 0 (tgt 0 c)) () N := rfl
theorem owe_1 (c : Dev nD) : owe c 1 = tallyAt (recvCell 2 (tgt 2 c)) () N + tallyAt (recvCell 1 (tgt 1 c)) () N := rfl
theorem owe_2 (c : Dev nD) : owe c 2 = tallyAt (recvCell 2 (tgt 2 c)) () N := rfl
theorem owe_3 (c : Dev nD) : owe c 3 = 0 := rfl

/-- What device `c` owes at launch: also one unit to each of the other three barrier cells; the last summand is paid first. -/
def O₀ (c : Dev nD) : CellTallies nD τ sig Unit :=
  owe c 0 + tallyAt (barCell (src 1 c)) () 1 + tallyAt (barCell (src 0 c)) () 1 + tallyAt (barCell (src 2 c)) () 1

def L (g : GSem nD τ sig) : Finset Unit := if g.1.2 = .tc then {()} else ∅
/-- The staging cells at 0, the barrier at 1, the send cells at 2, the receive cells at 3. -/
def lv (g : GSem nD τ sig) (_ : Unit) : ℕ := ![0, 1, 2, 2, 2, 3, 3, 3] (kind g.2)

theorem L_tc (c : Dev nD) (sm : SemLoc sig) : L ((c : Thread nD τ), sm) = {()} := if_pos rfl
theorem L_of_ne (g : GSem nD τ sig) (h : g.1.2 ≠ .tc) : L g = ∅ := if_neg h
theorem lv_bar (c : Dev nD) : lv (barCell c) () = 1 := rfl
theorem lv_send (p : Fin 3) (c : Dev nD) : lv (sendCell p c) () = 2 := by fin_cases p <;> rfl
theorem lv_recv (p : Fin 3) (c : Dev nD) : lv (recvCell p c) () = 3 := by fin_cases p <;> rfl

theorem owe_pos {c : Dev nD} {s : ℕ} {g : GSem nD τ sig} {u : Unit} (h : 0 < owe c s g u) : ∃ p, g = recvCell p (tgt p c) := by
  by_contra hn
  have hz (p : Fin 3) : ¬(g = recvCell p (tgt p c) ∧ u = ()) := fun h' => hn ⟨p, h'.1⟩
  match s with
  | 0 =>
    rw [owe_0] at h
    rw [Pi.add_apply, Finsupp.add_apply, Pi.add_apply, Finsupp.add_apply, tallyAt_apply, tallyAt_apply, tallyAt_apply,
      if_neg (hz 0), if_neg (hz 1), if_neg (hz 2)] at h
    exact Nat.lt_irrefl 0 h
  | 1 =>
    rw [owe_1] at h
    rw [Pi.add_apply, Finsupp.add_apply, tallyAt_apply, tallyAt_apply, if_neg (hz 1), if_neg (hz 2)] at h
    exact Nat.lt_irrefl 0 h
  | 2 =>
    rw [owe_2] at h
    rw [tallyAt_apply, if_neg (hz 2)] at h
    exact Nat.lt_irrefl 0 h
  | _ + 3 => exact Nat.lt_irrefl 0 h

theorem O₀_pos {c : Dev nD} {g : GSem nD τ sig} {u : Unit} (h : 0 < O₀ c g u) :
    (∃ p, g = recvCell p (tgt p c)) ∨ ∃ p, g = barCell (src p c) := by
  by_contra hn
  rw [not_or] at hn
  have hz (p : Fin 3) : ¬(g = barCell (src p c) ∧ u = ()) := fun h' => hn.2 ⟨p, h'.1⟩
  unfold O₀ at h
  rw [Pi.add_apply, Finsupp.add_apply, Pi.add_apply, Finsupp.add_apply, Pi.add_apply, Finsupp.add_apply, tallyAt_apply,
    tallyAt_apply, tallyAt_apply, if_neg (hz 0), if_neg (hz 1), if_neg (hz 2), Nat.add_zero] at h
  exact hn.1 (owe_pos h)

/-- A core that owes receive credits only may wait on a cell below them. -/
theorem mayWait_owe (c : Dev nD) (sm : SemLoc sig) (s : ℕ) (h : lv ((c : Thread nD τ), sm) () ≤ 2) :
    (levAts L lv : sProp (MM F)) ⊢ MayWait (c : Thread nD τ) sm () (owe c s) :=
  MayOwe.of_cut (L := L) (lev := lv) 2 (fun q hq => by rw [Finset.mem_singleton.mp hq, L_tc]; exact Finset.mem_singleton_self _)
    (fun g u hg => by obtain ⟨p, rfl⟩ := owe_pos hg; rw [L_tc]; exact Finset.mem_singleton_self _)
    (fun q hq => by rw [Finset.mem_singleton.mp hq]; exact h)
    (fun g u hg => by obtain ⟨p, rfl⟩ := owe_pos hg; cases u; rw [lv_recv]; decide)

/-- A core that owes what it owes at launch may wait on a staging cell. -/
theorem mayWait_O₀ (c : Dev nD) (sm : SemLoc sig) (h : lv ((c : Thread nD τ), sm) () = 0) :
    (levAts L lv : sProp (MM F)) ⊢ MayWait (c : Thread nD τ) sm () (O₀ c) :=
  MayOwe.of_cut (L := L) (lev := lv) 0 (fun q hq => by rw [Finset.mem_singleton.mp hq, L_tc]; exact Finset.mem_singleton_self _)
    (fun g u hg => by
      rcases O₀_pos hg with ⟨p, rfl⟩ | ⟨p, rfl⟩ <;> (rw [L_tc]; exact Finset.mem_singleton_self _))
    (fun q hq => by rw [Finset.mem_singleton.mp hq]; exact h.le)
    (fun g u hg => by
      cases u
      rcases O₀_pos hg with ⟨p, rfl⟩ | ⟨p, rfl⟩
      · rw [lv_recv]; decide
      · rw [lv_bar]; decide)

end Cert.KernelIdeal.Ring

end
-- ==== Proof.Steps.lean ====
/-
  One lemma for each kind of step the body takes, at a symbolic device and phase.
-/
module

public import Idealize.ShloMosaic.Lib.VecWindow
public import proofs.«01_k».proof.Proof.Protocol

@[expose] public section

set_option maxRecDepth 16384

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The printed memrefs and semaphores, by name -/

theorem send_sem (p : Fin 3) (o : Fin 1 → ℕ) (h : ∀ a, o a + S1.size a ≤ S4.size a) (ho : o = ![p.val]) :
    ((cc0_scratch2.slice (Rect.unit (s := S4) o S1.size h)).squeeze S_ squeezes_S1_S_).sem = sendS p := by
  subst ho; revert p h; decide +kernel
theorem recv_sem (p : Fin 3) (o : Fin 1 → ℕ) (h : ∀ a, o a + S1.size a ≤ S4.size a) (ho : o = ![p.val]) :
    ((cc0_scratch3.slice (Rect.unit (s := S4) o S1.size h)).squeeze S_ squeezes_S1_S_).sem = recvS p := by
  subst ho; revert p h; decide +kernel
theorem loc_sem : cc0_scratch4.sem = locS := rfl
theorem slot_eq (p : Fin 3) (o : Fin 3 → ℕ) (h : ∀ a, o a + S1x2048x1024.size a ≤ S3x2048x1024.size a) (ho : o = ![p.val, 0, 0]) :
    (landM.slice (Rect.unit (s := S3x2048x1024) o S1x2048x1024.size h) (fun _ => rfl)).squeeze S2048x1024
      squeezes_S1x2048x1024_S2048x1024 = slotM p := by
  subst ho; rfl

theorem row_inb (r : Fin 4) : ∀ a, (![2048 * r.val, 0] : Fin 2 → Nat) a + S2048x1024.size a ≤ S8192x1024.size a := by
  revert r; decide
/-- Rows `2048 r` to `2048 (r + 1)` of the result. -/
abbrev rowM (r : Fin 4) : Memref sig .tc .hbm S2048x1024 .f32 :=
  outM.slice (Rect.unit (s := S8192x1024) ![2048 * r.val, 0] S2048x1024.size (row_inb r)) (fun _ => rfl)
theorem row_eq (r : Fin 4) (o : Fin 2 → ℕ) (h : ∀ a, o a + S2048x1024.size a ≤ S8192x1024.size a) (ho : o = ![2048 * r.val, 0]) :
    outM.slice (Rect.unit (s := S8192x1024) o S2048x1024.size h) (fun _ => rfl) = rowM r := by
  subst ho; rfl
/-- The result with those rows overwritten. -/
abbrev setRow (r : Fin 4) (f : S8192x1024.Idx → Elt F .f32) (v : S2048x1024.Idx → Elt F .f32) : S8192x1024.Idx → Elt F .f32 :=
  (rowM r).view.write (Elt F) f v Finset.univ

/-- What a block of f32 credits. -/
abbrev N32 : ℕ := accM.view.dmaCredit
theorem N32_pos : 0 < N32 := View.dmaCredit_pos _ (by decide)
theorem row_credit (r : Fin 4) : (rowM r).view.dmaCredit = N32 := by rfl

theorem zz : (![0, 0] : Fin 2 → Nat) = fun _ => 0 := funext fun a => by fin_cases a <;> rfl

section Steps

variable {Q : PUnit → sProp (MM F)} (c : Dev nD)

/-! ## Loads and stores of whole buffers -/

theorem load_acc {h} {hl} {k} (f : S2048x1024.Idx → Elt F .f32) :
    accPts c f ⊢ iprop((accPts c f -∗ wp frame (wpE (defs₀ (F := F)) 𝒱₀ (c : Thread nD τ) none) Set.univ (k f) Q)
      -∗ wp frame (wpE (defs₀ (F := F)) 𝒱₀ (c : Thread nD τ) none) Set.univ
          (.op (.load accM (Rect.unit (s := S2048x1024) ![0, 0] S2048x1024.size h).toLoadRect hl) k) Q) := by
  iintro H Hk
  iapply (wp_load 𝒱₀ (c : Thread nD τ) none Set.univ (m := accM) (S := Finset.univ) (f := f) (Finset.subset_univ _)) $$ H
  iintro H
  rw [show accM.view.readAt (Elt F) (Rect.unit (s := S2048x1024) ![0, 0] S2048x1024.size h).toLoadRect f = f from
    Memref.readAt_unit_zero (Elt F) cc0_scratch0 zz _ f]
  iapply Hk
  iexact H

theorem store_acc {h} {w : S2048x1024.Idx → Elt F .f32} {hx hm} {k} (f : S2048x1024.Idx → Elt F .f32) :
    accPts c f ⊢ iprop((accPts c w -∗ wp frame (wpE (defs₀ (F := F)) 𝒱₀ (c : Thread nD τ) none) Set.univ (k ⟨⟩) Q)
      -∗ wp frame (wpE (defs₀ (F := F)) 𝒱₀ (c : Thread nD τ) none) Set.univ
          (.op (.store accM (Rect.unit (s := S2048x1024) ![0, 0] S2048x1024.size h) w Finset.univ hx hm) k) Q) := by
  iintro H Hk
  iapply (wp_store 𝒱₀ (c : Thread nD τ) none Set.univ (m := accM) (r := Rect.unit (s := S2048x1024) ![0, 0] S2048x1024.size h) (w := w) (S := Finset.univ) (f := f) (Finset.subset_univ _)) $$ H
  iintro H
  rw [show (accM.access (Rect.unit (s := S2048x1024) ![0, 0] S2048x1024.size h)).write (Elt F) f w Finset.univ = w from
    Memref.write_access_unit_zero_univ (Elt F) cc0_scratch0 zz _ f w]
  iapply Hk
  iexact H

theorem load_stg {h} {hl} {k} (f : S2048x1024.Idx → Elt F .bf16) :
    stgPts c f ⊢ iprop((stgPts c f -∗ wp frame (wpE (defs₀ (F := F)) 𝒱₀ (c : Thread nD τ) none) Set.univ (k f) Q)
      -∗ wp frame (wpE (defs₀ (F := F)) 𝒱₀ (c : Thread nD τ) none) Set.univ
          (.op (.load stgM (Rect.unit (s := S2048x1024) ![0, 0] S2048x1024.size h).toLoadRect hl) k) Q) := by
  iintro H Hk
  iapply (wp_load 𝒱₀ (c : Thread nD τ) none Set.univ (m := stgM) (S := Finset.univ) (f := f) (Finset.subset_univ _)) $$ H
  iintro H
  rw [show stgM.view.readAt (Elt F) (Rect.unit (s := S2048x1024) ![0, 0] S2048x1024.size h).toLoadRect f = f from
    Memref.readAt_unit_zero (Elt F) cc0_scratch1 zz _ f]
  iapply Hk
  iexact H

theorem store_stg {h} {w : S2048x1024.Idx → Elt F .bf16} {hx hm} {k} (f : S2048x1024.Idx → Elt F .bf16) :
    stgPts c f ⊢ iprop((stgPts c w -∗ wp frame (wpE (defs₀ (F := F)) 𝒱₀ (c : Thread nD τ) none) Set.univ (k ⟨⟩) Q)
      -∗ wp frame (wpE (defs₀ (F := F)) 𝒱₀ (c : Thread nD τ) none) Set.univ
          (.op (.store stgM (Rect.unit (s := S2048x1024) ![0, 0] S2048x1024.size h) w Finset.univ hx hm) k) Q) := by
  iintro H Hk
  iapply (wp_store 𝒱₀ (c : Thread nD τ) none Set.univ (m := stgM) (r := Rect.unit (s := S2048x1024) ![0, 0] S2048x1024.size h) (w := w) (S := Finset.univ) (f := f) (Finset.subset_univ _)) $$ H
  iintro H
  rw [show (stgM.access (Rect.unit (s := S2048x1024) ![0, 0] S2048x1024.size h)).write (Elt F) f w Finset.univ = w from
    Memref.write_access_unit_zero_univ (Elt F) cc0_scratch1 zz _ f w]
  iapply Hk
  iexact H

/-- Loading the whole of a staging slot of an input. -/
theorem load_slot {a b : Nat} {M : Memref sig .tc .vmem (⟨2, ![a, b]⟩ : Shape) .f32} {h} {hl} {k} (X : (⟨2, ![a, b]⟩ : Shape).Idx → Elt F .f32) :
    (owns (c : Thread nD τ) M fullShare X : sProp (MM F))
      ⊢ iprop((owns (c : Thread nD τ) M fullShare X -∗ wp frame (wpE (defs₀ (F := F)) 𝒱₀ (c : Thread nD τ) none) Set.univ (k X) Q)
      -∗ wp frame (wpE (defs₀ (F := F)) 𝒱₀ (c : Thread nD τ) none) Set.univ
          (.op (.load M (Rect.unit (s := (⟨2, ![a, b]⟩ : Shape)) ![0, 0] (⟨2, ![a, b]⟩ : Shape).size h).toLoadRect hl) k) Q) := by
  unfold owns
  iintro ⟨%f, %hf, Hp⟩ Hk
  iapply (wp_load 𝒱₀ (c : Thread nD τ) none Set.univ (m := M) (S := M.view.set) (f := f) (View.setOn_subset_set _ _)) $$ Hp
  iintro Hp
  rw [show M.view.readAt (Elt F) (Rect.unit (s := (⟨2, ![a, b]⟩ : Shape)) ![0, 0] (⟨2, ![a, b]⟩ : Shape).size h).toLoadRect f = X by
    revert h; rw [zz]; intro h; exact (View.readAt_full M.view f h).trans hf]
  iapply Hk
  iexists f
  isplitr; · ipureintro; exact hf
  iexact Hp

/-! ## The protocol's ghost state, and its steps -/

variable (S : Sent F)

/-- The invariants device `c` opens, at the names `K`. -/
def invs (K : GSem nD τ sig → ℕ) (c : Dev nD) : sProp (MM F) :=
  iprop(cellInv ER (Rd S) (K (barCell c)) (barCell c)
    ∗ (□ ∀ p, cellInv ER (Rd S) (K (sendCell p c)) (sendCell p c))
    ∗ (□ ∀ p, cellInv ER (Rd S) (K (recvCell p c)) (recvCell p c))
    ∗ (□ ∀ p, cellInv ER (Rd S) (K (barCell (src p c))) (barCell (src p c)))
    ∗ (□ ∀ p, cellInv ER (Rd S) (K (recvCell p (tgt p c))) (recvCell p (tgt p c))))

instance invs_persistent (K : GSem nD τ sig → ℕ) (c : Dev nD) : BI.Persistent (invs S K c) := by unfold invs; infer_instance

/-- Phase `p` has not sent: its two tokens, the position on its send cell, the target's slot, the rounds reached. -/
def unsent (p : Fin 3) (c : Dev nD) : sProp (MM F) :=
  iprop(dutyTok ER (sendCell p c) 0 0 ∗ dutyTok ER (recvCell p (tgt p c)) 0 0 ∗ atPos ER (sendCell p c) 0 ∅ 0
    ∗ reached ER (sendCell p c) 0 ∗ barPay p c)
/-- Phase `p` has sent and not waited. -/
def inflight (p : Fin 3) (c : Dev nD) : sProp (MM F) :=
  iprop(cred (tallyAt (sendCell p c) () N) ∗ atPos ER (sendCell p c) 0 ∅ 0)
/-- Slot `p` of `c` is awaited. -/
def awaited (p : Fin 3) (c : Dev nD) : sProp (MM F) :=
  iprop(cred (tallyAt (recvCell p c) () N) ∗ atPos ER (recvCell p c) 0 ∅ 0)

/-- The barrier unit of phase `p`: device `c` hands its own slot `p`, and that its receive cell is open, to `src p c`. -/
theorem signal_bar (K : GSem nD τ sig → ℕ) (p : Fin 3) (n : Dev nD) (hn : n = src p c) (O : CellTallies nD τ sig Unit) (W : Waits sig Unit)
    {k : PUnit → Prog (TpuEff nD τ sig (Elt F) Λ₀ .tc) PUnit} :
    iprop(invs S K c ∗ owes (c : Thread nD τ) (O + tallyAt (barCell (src p c)) () 1) W ∗ dutyTok ER (barCell (src p c)) 0 p
        ∗ (∃ f, slotPts p c f) ∗ reached ER (recvCell p c) 0 ∗ reached ER (barCell (src p c)) 0)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n) barS 1) k) Q) := by
  subst hn
  unfold invs
  iintro ⟨⟨-, -, -, #HI, -⟩, HO, Ht, Hs, #Hr, #Hr'⟩ Hk
  ihave #HIp := HI $$ %p
  iapply (Rounds.wp_signal 𝒱₀ ER (Rd S) (c : Thread nD τ) none (dst := (src p c : Thread nD τ)) (sem := barS) (r := 0) (d := p)
    (κ := K (barCell (src p c))) (by rw [duties_bar]; exact Finset.mem_univ _) (amount_bar S (src p c) p) () O rfl) $$ [HO Ht Hs]
  · isplitr; · iexact HIp
    isplitl [HO]; · iexact HO
    isplitl [Ht]; · iexact Ht
    isplitl [Hs]
    · rw [payload_bar]; unfold barPay; rw [tgt_src]
      isplitl [Hs]; · iexact Hs
      iexact Hr
    · iexact Hr'
  iexact Hk

/-- The wait for the three barrier units; the cell is closed at once. -/
theorem wait_bar (K : GSem nD τ sig → ℕ) (W : Waits sig Unit)
    {k : PUnit → Prog (TpuEff nD τ sig (Elt F) Λ₀ .tc) PUnit} :
    iprop(invs S K c ∗ levAts L lv ∗ cred (tallyAt (barCell c) () 3) ∗ owes (c : Thread nD τ) (owe c 0) W ∗ atPos ER (barCell c) 0 ∅ 0)
      ⊢ iprop(((owes (c : Thread nD τ) (owe c 0) (insert (.reg barS, ()) W) ∗ semVal (barCell c) 0
            ∗ barPay 0 c ∗ barPay 1 c ∗ barPay 2 c) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 3) k) Q) := by
  unfold invs
  iintro ⟨⟨#HI, -⟩, #Hlev, Hc, HO, Hat⟩ Hk
  iapply (Rounds.wp_wait_rest_token 𝒱₀ ER (Rd S) (c : Thread nD τ) none (κ := K (barCell c))
      (wpE_semWait_eq 𝒱₀ (c : Thread nD τ) none Set.univ) (Set.mem_univ _) () (O := owe c 0) (W := W) (R := 0) (m := 0) (T := ∅)
      ((Nat.zero_add 3).trans (expect_bar S c).symm)) $$ [Hc HO Hat]
  · isplitr; · iexact HI
    isplitl [Hc]; · iexact Hc
    isplitl [HO]; · iexact HO
    isplitr; · iapply (mayWait_owe c (.reg barS) 0 ((lv_bar c).le.trans (by decide))); iexact Hlev
    iexact Hat
  iintro ⟨HO, Hat, -, Hpay⟩
  ihave Hp := (Entails.of_eq (rest_bar S c)) $$ Hpay
  imod (Rounds.cell_close ER (Rd S) (g := barCell c) (Set.mem_univ (K (barCell c))) id (duties_later S (barCell c))) $$ [Hat] with Hz
  · isplitr; · iexact HI
    iexact Hat
  iapply Hk
  isplitl [HO]; · iexact HO
  isplitl [Hz]; · iexact Hz
  iexact Hp

/-- The copy of phase `p` into the target's slot. -/
theorem send_slot (K : GSem nD τ sig → ℕ) (p : Fin 3) (n : Dev nD) (hn : n = tgt p c)
    (dst : Memref sig .tc .hbm S2048x1024 .bf16) (hd : dst = slotM p) (sS sR : DmaSem sig) (hS : sS = sendS p) (hR : sR = recvS p)
    (O : CellTallies nD τ sig Unit) (W : Waits sig Unit) {hsc hsrc hdst hsem}
    {k : PUnit → Prog (TpuEff nD τ sig (Elt F) Λ₀ .tc) PUnit} :
    iprop(invs S K c ∗ stgPts c (S p c) ∗ owes (c : Thread nD τ) (O + tallyAt (recvCell p (tgt p c)) () N) W ∗ unsent p c)
      ⊢ iprop(((inflight p c ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma stgM (.remote (Dev.tc n) dst (.dma sS) hsc) (.dma sR) hsrc hdst hsem) k) Q) := by
  subst hn hd hS hR
  unfold invs unsent barPay
  iintro ⟨⟨-, #HS, -, -, #HR⟩, Hx, HO, HtS, HtR, Hat, #HrS, ⟨%fn, Hd⟩, #HrR⟩ Hk
  ihave #HSp := HS $$ %p
  ihave #HRp := HR $$ %p
  iapply (Rounds.wp_send_pointsTo 𝒱₀ ER (Rd S) (c : Thread nD τ) none (c' := (tgt p c : Thread nD τ)) (src := stgM) (dst := slotM p)
      (sS := .dma (sendS p)) (sem := .dma (recvS p)) (q := fullShare) (fs := S p c) (κ₁ := K (sendCell p c)) (κ₂ := K (recvCell p (tgt p c)))
      (r₁ := 0) (r₂ := 0) (d₁ := 0) (d₂ := 0) (fd := fn)
      (by rw [duties_send]; exact Finset.mem_singleton_self _) (by rw [duties_recv]; exact Finset.mem_singleton_self _)
      () () N (slot_credit p) (amount_send S p c 0) (amount_recv S p (tgt p c) 0) O rfl (W := W)
      (by rw [payload_send]; unfold sendPay; exact Entails.of_eq (by rw [show stgM.view.set = Finset.univ from View.set_whole _]))
      (by
        rw [payload_recv]; unfold recvPay slotAt
        iintro H
        iexists ((slotM p).view.write (Elt F) fn (stgM.view.read (Elt F) (S p c)) Finset.univ)
        isplitr
        · ipureintro; rw [src_tgt]; exact View.read_write_univ _ _
        · iexact H)) $$ [Hx Hd HO HtS HtR]
  · isplitr; · iexact HSp
    isplitr; · iexact HRp
    isplitl [Hx]; · rw [show stgM.view.set = Finset.univ from View.set_whole _]; iexact Hx
    isplitl [Hd]; · iexact Hd
    isplitl [HO]; · iexact HO
    isplitl [HtS]; · iexact HtS
    isplitr; · iexact HrS
    isplitl [HtR]; · iexact HtR
    iexact HrR
  iintro ⟨Hc, HO⟩
  iapply Hk
  unfold inflight
  isplitr [HO]
  · isplitl [Hc]; · iexact Hc
    iexact Hat
  · iexact HO

/-- The wait for the copy of phase `p` to have read the staging buffer; the send cell is closed at once. -/
theorem wait_send (K : GSem nD τ sig → ℕ) (p : Fin 3) (s : ℕ) (sS : DmaSem sig) (hS : sS = sendS p) (W : Waits sig Unit)
    {sp : Space} {sh : Shape} {e : EltTy} {srcw : Memref sig .tc sp sh e} {hsrc hdst}
    {k : PUnit → Prog (TpuEff nD τ sig (Elt F) Λ₀ .tc) PUnit} :
    iprop(invs S K c ∗ levAts L lv ∗ inflight p c ∗ owes (c : Thread nD τ) (owe c s) W)
      ⊢ iprop(((semVal (sendCell p c) 0 ∗ stgPts c (S p c) ∗ owes (c : Thread nD τ) (owe c s) (insert (.dma (sendS p), ()) W))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 sS srcw stgM hsrc hdst) k) Q) := by
  subst hS
  unfold invs inflight
  iintro ⟨⟨-, #HS, -⟩, #Hlev, ⟨Hc, Hat⟩, HO⟩ Hk
  ihave #HI := HS $$ %p
  iapply (Rounds.wp_wait_rest_token 𝒱₀ ER (Rd S) (c : Thread nD τ) none (κ := K (sendCell p c))
      (wpE_waitDma2_eq (src := srcw) (dst := stgM) 𝒱₀ (c : Thread nD τ) none Set.univ) (Set.mem_univ _) () (O := owe c s) (W := W) (R := 0) (m := 0) (T := ∅)
      ((Nat.zero_add _).trans (expect_send S p c).symm)) $$ [Hc HO Hat]
  · isplitr; · iexact HI
    isplitl [Hc]; · iexact Hc
    isplitl [HO]; · iexact HO
    isplitr; · iapply (mayWait_owe c (.dma (sendS p)) s (lv_send p c).le); iexact Hlev
    iexact Hat
  iintro ⟨HO, Hat, -, Hpay⟩
  ihave Hp := (Entails.of_eq (rest_send S p c)) $$ Hpay
  imod (Rounds.cell_close ER (Rd S) (g := sendCell p c) (Set.mem_univ (K (sendCell p c))) id (duties_later S (sendCell p c))) $$ [Hat] with Hz
  · isplitr; · iexact HI
    iexact Hat
  iapply Hk
  isplitl [Hz]; · iexact Hz
  isplitl [Hp]; · unfold sendPay; iexact Hp
  iexact HO

/-- The wait for slot `p` to have been written; the receive cell is closed at once. -/
theorem wait_recv (K : GSem nD τ sig → ℕ) (p : Fin 3) (sR : DmaSem sig) (hR : sR = recvS p)
    (dst : Memref sig .tc .hbm S2048x1024 .bf16) (hd : dst = slotM p) (W : Waits sig Unit)
    {sp : Space} {sh : Shape} {e : EltTy} {srcw : Memref sig .tc sp sh e} {hsrc hdst}
    {k : PUnit → Prog (TpuEff nD τ sig (Elt F) Λ₀ .tc) PUnit} :
    iprop(invs S K c ∗ awaited p c ∗ owes (c : Thread nD τ) 0 W)
      ⊢ iprop(((semVal (recvCell p c) 0 ∗ slotAt p c (S p (src p c)) ∗ owes (c : Thread nD τ) 0 (insert (.dma (recvS p), ()) W))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 sR srcw dst hsrc hdst) k) Q) := by
  subst hR hd
  unfold invs awaited
  iintro ⟨⟨-, -, #HR, -⟩, ⟨Hc, Hat⟩, HO⟩ Hk
  ihave #HI := HR $$ %p
  iapply (Rounds.wp_wait_rest_token 𝒱₀ ER (Rd S) (c : Thread nD τ) none (κ := K (recvCell p c))
      (wpE_waitDma2_eq (src := srcw) (dst := slotM p) 𝒱₀ (c : Thread nD τ) none Set.univ) (Set.mem_univ _) () (O := 0) (W := W) (R := 0) (m := 0) (T := ∅)
      ((Nat.zero_add _).trans ((slot_credit p).trans (expect_recv S p c).symm))) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv S p c)) $$ Hpay
  imod (Rounds.cell_close ER (Rd S) (g := recvCell p c) (Set.mem_univ (K (recvCell p c))) id (duties_later S (recvCell p c))) $$ [Hat] with Hz
  · isplitr; · iexact HI
    iexact Hat
  iapply Hk
  isplitl [Hz]; · iexact Hz
  isplitl [Hp]; · unfold recvPay; iexact Hp
  iexact HO

/-! ## The local copies, each waited for at once -/

/-- The accumulator into rows `r` of the result. -/
theorem copy_out (r : Fin 4) (dst dst' : Memref sig .tc .hbm S2048x1024 .f32) (hd : dst = rowM r) (hd' : dst' = rowM r)
    (f : S8192x1024.Idx → Elt F .f32) (v : S2048x1024.Idx → Elt F .f32) (W : Waits sig Unit) {hsrc hdst hsem hsrc' hdst'}
    {k : PUnit → Prog (TpuEff nD τ sig (Elt F) Λ₀ .tc) PUnit} :
    iprop(accPts c v ∗ outPts c f ∗ semVal (locCell c) 0 ∗ owes (c : Thread nD τ) 0 W)
      ⊢ iprop(((accPts c v ∗ outPts c (setRow r f v) ∗ semVal (locCell c) 0 ∗ owes (c : Thread nD τ) 0 (insert (.dma locS, ()) W))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma accM (.here dst) (.dma locS) hsrc hdst hsem) fun _ => .op (.waitDma2 locS accM dst' hsrc' hdst') k) Q) := by
  subst hd hd'
  iintro ⟨Ha, Ho, Hv, HO⟩ Hk
  iapply (Transfers.wp_dmaLocal EC 𝒱₀ (c : Thread nD τ) none (src := accM) (dst := rowM r) (q := fullShare) (fs := v) (fd := f)
    (Sd := Finset.univ) () N32 (show (rowM r).view.amount (.dma locS) = N32 from row_credit r) N32_pos (Finset.subset_univ _)) $$ [Ha Ho Hv]
  · isplitl [Ha]; · rw [show accM.view.set = Finset.univ from View.set_whole _]; iexact Ha
    isplitl [Ho]; · iexact Ho
    iexact Hv
  iintro Hf
  iapply (Transfers.wp_waitLocal EC 𝒱₀ (c : Thread nD τ) none () (row_credit r)) $$ [Hf HO]
  · isplitl [Hf]; · iexact Hf
    iexact HO
  iintro ⟨⟨Ho, Ha⟩, Hv, HO⟩
  iapply Hk
  isplitl [Ha]; · rw [show accM.view.set = Finset.univ from View.set_whole _]; iexact Ha
  isplitl [Ho]; · iexact Ho
  isplitl [Hv]; · iexact Hv
  iexact HO

/-- Slot `p` into the staging buffer. -/
theorem copy_slot (p : Fin 3) (sl sl' : Memref sig .tc .hbm S2048x1024 .bf16) (hs : sl = slotM p) (hs' : sl' = slotM p)
    (f v : S2048x1024.Idx → Elt F .bf16) (W : Waits sig Unit) {hsrc hdst hsem hsrc' hdst'}
    {k : PUnit → Prog (TpuEff nD τ sig (Elt F) Λ₀ .tc) PUnit} :
    iprop(slotAt p c v ∗ stgPts c f ∗ semVal (locCell c) 0 ∗ owes (c : Thread nD τ) 0 W)
      ⊢ iprop(((slotAt p c v ∗ stgPts c v ∗ semVal (locCell c) 0 ∗ owes (c : Thread nD τ) 0 (insert (.dma locS, ()) W))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma sl (.here stgM) (.dma locS) hsrc hdst hsem) fun _ => .op (.waitDma2 locS sl' stgM hsrc' hdst') k) Q) := by
  subst hs hs'
  unfold slotAt
  iintro ⟨⟨%g, %hg, Ha⟩, Ho, Hv, HO⟩ Hk
  iapply (Transfers.wp_dmaLocal EC 𝒱₀ (c : Thread nD τ) none (src := slotM p) (dst := stgM) (q := fullShare) (fs := g) (fd := f)
    (Sd := Finset.univ) () N rfl N_pos (Finset.subset_univ _)) $$ [Ha Ho Hv]
  · isplitl [Ha]; · iexact Ha
    isplitl [Ho]; · iexact Ho
    iexact Hv
  iintro Hf
  iapply (Transfers.wp_waitLocal EC 𝒱₀ (c : Thread nD τ) none () (N := N) rfl) $$ [Hf HO]
  · isplitl [Hf]; · iexact Hf
    iexact HO
  iintro ⟨⟨Ho, Ha⟩, Hv, HO⟩
  iapply Hk
  isplitl [Ha]
  · iexists g
    isplitr; · ipureintro; exact hg
    iexact Ha
  isplitl [Ho]
  · ihave Ho := (Entails.of_eq (congrArg (stgPts c) (show stgM.view.write (Elt F) f ((ReadAs.same (Val := Elt F)).apply ((slotM p).view.read (Elt F) g)) Finset.univ = v from
      (View.write_whole_univ _ _ _).trans hg))) $$ Ho
    iexact Ho
  isplitl [Hv]; · iexact Hv
  iexact HO

end Steps

end Cert.KernelIdeal.Ring

end
-- ==== Proof.Forms.lean ====
/-
  The printed conditions, device numbers and offsets, in closed form.
-/
module

public import proofs.«01_k».proof.Proof.Steps

@[expose] public section

set_option maxRecDepth 16384

noncomputable section

namespace Cert.KernelIdeal.Ring

open Idealize.ShloMosaic
open Idealize.ShloMosaic.TcCoe
open Cert.KernelIdeal.Gen

theorem cond1_iff : ∀ i : grid0.Coords, k0_cond1 i = 1#1 ↔ (i 0).val = 0 ∧ (i 1).val = 0 := by decide +kernel
/-- The condition under which the accumulator is cleared. -/
theorem cond2_iff : ∀ i : grid0.Coords,
    Scalar.cmpi .ne (Scalar.extui (Scalar.cmpi .eq (BitVec.ofNat 32 (i 1).val) 0#32)) 0#32 = 1#1 ↔ (i 1).val = 0 := by decide +kernel
theorem cond3_iff : ∀ i : grid0.Coords, k0_cond3 i = 1#1 ↔ (i 1).val = 7 := by decide +kernel
theorem cond4_iff : ∀ (i : grid0.Coords) (c : Dev nD), k0_cond4 i c = 1#1 ↔ (i 0).val ≠ 3 := by decide +kernel
theorem cond5_iff : ∀ i : grid0.Coords, k0_cond5 i = 1#1 ↔ (i 0).val ≠ 0 := by decide +kernel
theorem cond6_iff : ∀ (i : grid0.Coords) (c : Dev nD), k0_cond6 i c = 1#1 ↔ (i 0).val = 3 := by decide +kernel
theorem cond7_iff : ∀ i : grid0.Coords, k0_cond7 i = 1#1 ↔ (i 0).val = 3 ∧ (i 1).val = 7 := by decide +kernel

theorem dev1_eq : ∀ c : Dev nD, k0_dev1 c = (src 2 c).val := by decide +kernel
theorem dev2_eq : ∀ c : Dev nD, k0_dev2 c = (src 0 c).val := by decide +kernel
theorem dev3_eq : ∀ c : Dev nD, k0_dev3 c = (src 1 c).val := by decide +kernel
theorem dev4_eq : ∀ (i : grid0.Coords) (p : Fin 3) (c : Dev nD), (i 0).val = p.val → k0_dev4 i c = (tgt p c).val := by decide +kernel
theorem off1_eq : ∀ (i : grid0.Coords) (p : Fin 3), (i 0).val = p.val + 1 → k0_off1 i = ![p.val] := by decide +kernel
theorem off6_eq : ∀ (p : Fin 3) (c : Dev nD), k0_off6 c (BitVec.ofNat 32 (dist p).val) = ![2048 * (src p c).val, 0] := by decide +kernel

end Cert.KernelIdeal.Ring

end
-- ==== Proof.Body.lean ====
/-
  The body at a grid point, case by case: the first point meets the other devices, the first point of a phase clears the
  accumulator, every point adds one product, the last point of a phase sends, and the last point of all collects.
-/
module

public import proofs.«01_k».proof.Proof.Forms

@[expose] public section

set_option maxRecDepth 16384

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The body at point `i` on the two staging slots, on the buffers and semaphores of the region. -/
abbrev bodyAt (i : grid0.Coords) (X : Memref sig .tc .vmem S2048x1024 .f32) (hX : X.IsWhole)
    (Y : Memref sig .tc .vmem S1024x1024 .f32) (hY : Y.IsWhole) : Prog (TpuEff nD τ sig (Elt F) Λ₀ .tc) PUnit :=
  cc0_body i (Memref.whole main_v5) (Memref.isWhole_whole _) X hX Y hY outM (Memref.isWhole_whole _) landM (Memref.isWhole_whole _)
    accM (Memref.isWhole_whole _) stgM (Memref.isWhole_whole _) cc0_scratch2 cc0_scratch3 cc0_scratch4

variable (S : Sent F) (c : Dev nD) (i : grid0.Coords)
  (X : Memref sig .tc .vmem S2048x1024 .f32) (hX : X.IsWhole) (Y : Memref sig .tc .vmem S1024x1024 .f32) (hY : Y.IsWhole)
  (x : S2048x1024.Idx → Elt F .f32) (y : S1024x1024.Idx → Elt F .f32) {Q : PUnit → sProp (MM F)}

/-- The two inputs of a point, in the staging slots. -/
abbrev ins : sProp (MM F) := iprop(owns (c : Thread nD τ) X fullShare x ∗ owns (c : Thread nD τ) Y fullShare y)

/-- A point inside a phase. -/
theorem body_mid (h0 : (i 1).val ≠ 0) (h7 : (i 1).val ≠ 7) (a : S2048x1024.Idx → Elt F .f32) :
    iprop(ins c X Y x y ∗ accPts c a ∗ ((ins c X Y x y ∗ accPts c (k0_pay2 (k0_pay9 x y) a)) -∗ Q ⟨⟩))
      ⊢ wp frame (wpE (defs₀ (F := F)) 𝒱₀ (c : Thread nD τ) none) Set.univ (bodyAt (F := F) i X hX Y hY) Q := by
  have c1 : ¬ k0_cond1 i = 1#1 := fun h => h0 ((cond1_iff i).mp h).2
  have c2 := mt (cond2_iff i).mp h0
  have c3 := mt (cond3_iff i).mp h7
  have c7 : ¬ k0_cond7 i = 1#1 := fun h => h7 ((cond7_iff i).mp h).2
  unfold bodyAt
  rw [cc0_body_eq_skeleton]
  unfold cc0_body_skel
  rw [k0_part5_eq_skeleton]
  unfold k0_part5_skel
  simp only [dif_neg c1, dif_neg c2, dif_neg c3, dif_neg c7, Prog.lift, Prog.bind_op, Prog.bind_ret, Prog.pure_eq_ret, Prog.bind_assoc, wp_deviceId]
  iintro ⟨⟨Hx, Hy⟩, Ha, Hk⟩
  iapply (load_slot c x) $$ Hx
  iintro Hx
  iapply (load_slot c y) $$ Hy
  iintro Hy
  iapply (load_acc c a) $$ Ha
  iintro Ha
  iapply (load_acc c a) $$ Ha
  iintro Ha
  iapply (store_acc c a) $$ Ha
  iintro Ha
  rw [wp_ret]
  imodintro
  iapply Hk
  isplitr [Ha]
  · isplitl [Hx]; · iexact Hx
    iexact Hy
  · iexact Ha

/-- The first point of a later phase. -/
theorem body_zero (hp : (i 0).val ≠ 0) (h0 : (i 1).val = 0) (a : S2048x1024.Idx → Elt F .f32) :
    iprop(ins c X Y x y ∗ accPts c a ∗ ((ins c X Y x y ∗ accPts c (k0_pay2 (k0_pay9 x y) (k0_pay1 (F := F)))) -∗ Q ⟨⟩))
      ⊢ wp frame (wpE (defs₀ (F := F)) 𝒱₀ (c : Thread nD τ) none) Set.univ (bodyAt (F := F) i X hX Y hY) Q := by
  have c1 : ¬ k0_cond1 i = 1#1 := fun h => hp ((cond1_iff i).mp h).1
  have c2 := (cond2_iff i).mpr h0
  have c3 : ¬ k0_cond3 i = 1#1 := fun h => by have := (cond3_iff i).mp h; omega
  have c7 : ¬ k0_cond7 i = 1#1 := fun h => by have := (cond7_iff i).mp h; omega
  unfold bodyAt
  rw [cc0_body_eq_skeleton]
  unfold cc0_body_skel
  rw [k0_part5_eq_skeleton]
  unfold k0_part5_skel
  simp only [dif_neg c1, dif_pos c2, dif_neg c3, dif_neg c7, Prog.lift, Prog.bind_op, Prog.bind_ret, Prog.pure_eq_ret, Prog.bind_assoc, wp_deviceId]
  iintro ⟨⟨Hx, Hy⟩, Ha, Hk⟩
  iapply (load_slot c x) $$ Hx
  iintro Hx
  iapply (load_slot c y) $$ Hy
  iintro Hy
  iapply (load_acc c a) $$ Ha
  iintro Ha
  iapply (store_acc c a) $$ Ha
  iintro Ha
  iapply (load_acc c (k0_pay1 (F := F))) $$ Ha
  iintro Ha
  iapply (load_acc c (k0_pay1 (F := F))) $$ Ha
  iintro Ha
  iapply (store_acc c (k0_pay1 (F := F))) $$ Ha
  iintro Ha
  rw [wp_ret]
  imodintro
  iapply Hk
  isplitr [Ha]
  · isplitl [Hx]; · iexact Hx
    iexact Hy
  · iexact Ha

/-- What device `c` hands over at the barrier for phase `p`. -/
def meet (p : Fin 3) (c : Dev nD) : sProp (MM F) :=
  iprop(dutyTok ER (barCell (src p c)) 0 p ∗ (∃ f, slotPts p c f) ∗ reached ER (recvCell p c) 0 ∗ reached ER (barCell (src p c)) 0)

/-- The first point of all. -/
theorem body_first (K : GSem nD τ sig → ℕ) (hp : (i 0).val = 0) (h0 : (i 1).val = 0) (a : S2048x1024.Idx → Elt F .f32) (W : Waits sig Unit) :
    iprop(invs S K c ∗ levAts L lv ∗ ins c X Y x y ∗ accPts c a ∗ cred (tallyAt (barCell c) () 3) ∗ atPos ER (barCell c) 0 ∅ 0
        ∗ owes (c : Thread nD τ) (O₀ c) W ∗ meet 0 c ∗ meet 1 c ∗ meet 2 c
        ∗ ((ins c X Y x y ∗ accPts c (k0_pay2 (k0_pay9 x y) (k0_pay1 (F := F))) ∗ semVal (barCell c) 0
            ∗ (∃ W', owes (c : Thread nD τ) (owe c 0) W') ∗ barPay 0 c ∗ barPay 1 c ∗ barPay 2 c) -∗ Q ⟨⟩))
      ⊢ wp frame (wpE (defs₀ (F := F)) 𝒱₀ (c : Thread nD τ) none) Set.univ (bodyAt (F := F) i X hX Y hY) Q := by
  have c1 := (cond1_iff i).mpr ⟨hp, h0⟩
  have c2 := (cond2_iff i).mpr h0
  have c3 : ¬ k0_cond3 i = 1#1 := fun h => by have := (cond3_iff i).mp h; omega
  have c7 : ¬ k0_cond7 i = 1#1 := fun h => by have := (cond7_iff i).mp h; omega
  unfold bodyAt
  rw [cc0_body_eq_skeleton]
  unfold cc0_body_skel
  rw [k0_part5_eq_skeleton]
  unfold k0_part5_skel
  rw [k0_part1_eq_skeleton]
  unfold k0_part1_skel
  simp only [dif_pos c1, dif_pos c2, dif_neg c3, dif_neg c7, semSignalWord, semWaitWord, Prog.lift, Prog.bind_op, Prog.bind_ret, Prog.pure_eq_ret, Prog.bind_assoc, wp_deviceId]
  unfold meet
  iintro ⟨#HI, #Hlev, ⟨Hx, Hy⟩, Ha, Hc, Hat, HO, ⟨Ht0, Hs0, Hr0, Hb0⟩, ⟨Ht1, Hs1, Hr1, Hb1⟩, ⟨Ht2, Hs2, Hr2, Hb2⟩, Hk⟩
  iapply (signal_bar c S K 2 _ (Fin.ext (dev1_eq c)) (owe c 0 + tallyAt (barCell (src 1 c)) () 1 + tallyAt (barCell (src 0 c)) () 1) W) $$ [HO Ht2 Hs2 Hr2 Hb2]
  · isplitr; · iexact HI
    isplitl [HO]; · unfold O₀; iexact HO
    isplitl [Ht2]; · iexact Ht2
    isplitl [Hs2]; · iexact Hs2
    isplitl [Hr2]; · iexact Hr2
    iexact Hb2
  iintro HO
  iapply (signal_bar c S K 0 _ (Fin.ext (dev2_eq c)) (owe c 0 + tallyAt (barCell (src 1 c)) () 1) W) $$ [HO Ht0 Hs0 Hr0 Hb0]
  · isplitr; · iexact HI
    isplitl [HO]; · iexact HO
    isplitl [Ht0]; · iexact Ht0
    isplitl [Hs0]; · iexact Hs0
    isplitl [Hr0]; · iexact Hr0
    iexact Hb0
  iintro HO
  iapply (signal_bar c S K 1 _ (Fin.ext (dev3_eq c)) (owe c 0) W) $$ [HO Ht1 Hs1 Hr1 Hb1]
  · isplitr; · iexact HI
    isplitl [HO]; · iexact HO
    isplitl [Ht1]; · iexact Ht1
    isplitl [Hs1]; · iexact Hs1
    isplitl [Hr1]; · iexact Hr1
    iexact Hb1
  iintro HO
  iapply (wait_bar c S K W) $$ [HO Hc Hat]
  · isplitr; · iexact HI
    isplitr; · iexact Hlev
    isplitl [Hc]; · iexact Hc
    isplitl [HO]; · iexact HO
    iexact Hat
  iintro ⟨HO, Hz, Hb⟩
  iapply (load_slot c x) $$ Hx
  iintro Hx
  iapply (load_slot c y) $$ Hy
  iintro Hy
  iapply (load_acc c a) $$ Ha
  iintro Ha
  iapply (store_acc c a) $$ Ha
  iintro Ha
  iapply (load_acc c (k0_pay1 (F := F))) $$ Ha
  iintro Ha
  iapply (load_acc c (k0_pay1 (F := F))) $$ Ha
  iintro Ha
  iapply (store_acc c (k0_pay1 (F := F))) $$ Ha
  iintro Ha
  rw [wp_ret]
  imodintro
  iapply Hk
  isplitl [Hx Hy]
  · isplitl [Hx]; · iexact Hx
    iexact Hy
  isplitl [Ha]; · iexact Ha
  isplitl [Hz]; · iexact Hz
  isplitl [HO]; · iexists _; iexact HO
  iexact Hb

theorem owe_succ (p : Fin 3) (c : Dev nD) : owe c p.val = owe c (p.val + 1) + tallyAt (recvCell p (tgt p c)) () N := by
  fin_cases p
  · exact owe_0 c
  · exact owe_1 c
  · exact (owe_2 c).trans (zero_add _).symm

/-- The last point of phase 0. -/
theorem body_send0 (K : GSem nD τ sig → ℕ) (hp : (i 0).val = 0) (h7 : (i 1).val = 7) (a : S2048x1024.Idx → Elt F .f32)
    (hS : k0_pay4 (k0_pay2 (k0_pay9 x y) a) = S 0 c) (g : S2048x1024.Idx → Elt F .bf16) (W : Waits sig Unit) :
    iprop(invs S K c ∗ ins c X Y x y ∗ accPts c a ∗ stgPts c g ∗ unsent 0 c ∗ owes (c : Thread nD τ) (owe c 0) W
        ∗ ((ins c X Y x y ∗ (∃ a', accPts c a') ∗ inflight 0 c ∗ (∃ W', owes (c : Thread nD τ) (owe c 1) W')) -∗ Q ⟨⟩))
      ⊢ wp frame (wpE (defs₀ (F := F)) 𝒱₀ (c : Thread nD τ) none) Set.univ (bodyAt (F := F) i X hX Y hY) Q := by
  have c1 : ¬ k0_cond1 i = 1#1 := fun h => by have := (cond1_iff i).mp h; omega
  have c2 := mt (cond2_iff i).mp (by omega)
  have c3 := (cond3_iff i).mpr h7
  have c4 := (cond4_iff i c).mpr (by omega)
  have c5 : ¬ k0_cond5 i = 1#1 := fun h => by have := (cond5_iff i).mp h; omega
  have c6 : ¬ k0_cond6 i c = 1#1 := fun h => by have := (cond6_iff i c).mp h; omega
  have c7 : ¬ k0_cond7 i = 1#1 := fun h => by have := (cond7_iff i).mp h; omega
  unfold bodyAt
  rw [cc0_body_eq_skeleton]
  unfold cc0_body_skel
  rw [k0_part5_eq_skeleton]
  unfold k0_part5_skel
  simp only [dif_neg c1, dif_neg c2, dif_pos c3, dif_pos c4, dif_neg c5, dif_neg c6, dif_neg c7, Prog.lift, Prog.bind_op, Prog.bind_ret, Prog.pure_eq_ret, Prog.bind_assoc, wp_deviceId]
  iintro ⟨#HI, ⟨Hx, Hy⟩, Ha, Hg, Hu, HO, Hk⟩
  iapply (load_slot c x) $$ Hx
  iintro Hx
  iapply (load_slot c y) $$ Hy
  iintro Hy
  iapply (load_acc c a) $$ Ha
  iintro Ha
  iapply (load_acc c a) $$ Ha
  iintro Ha
  iapply (store_acc c a) $$ Ha
  iintro Ha
  iapply (load_acc c (k0_pay2 (k0_pay9 x y) a)) $$ Ha
  iintro Ha
  iapply (load_stg c g) $$ Hg
  iintro Hg
  iapply (store_stg c g) $$ Hg
  iintro Hg
  rw [hS]
  iapply (send_slot c S K 0 _ (Fin.ext (dev4_eq i 0 c hp)) _ (slot_eq 0 _ _ ((k0_off3_eq i).trans (by rw [hp]; rfl))) _ _
    (send_sem 0 _ _ ((k0_off2_eq i).trans (by rw [hp]; rfl))) (recv_sem 0 _ _ ((k0_off2_eq i).trans (by rw [hp]; rfl))) (owe c 1) W) $$ [Hg HO Hu]
  · isplitr; · iexact HI
    isplitl [Hg]; · iexact Hg
    isplitl [HO]; · rw [show owe c 0 = owe c 1 + tallyAt (recvCell 0 (tgt 0 c)) () N from owe_0 c]; iexact HO
    iexact Hu
  iintro ⟨Hf, HO⟩
  rw [wp_ret]
  imodintro
  iapply Hk
  isplitl [Hx Hy]
  · isplitl [Hx]; · iexact Hx
    iexact Hy
  isplitl [Ha]; · iexists _; iexact Ha
  isplitl [Hf]; · iexact Hf
  iexists _; iexact HO

/-- The last point of phases 1 and 2: the staging buffer is free again once the copy before has read it. -/
theorem body_send (K : GSem nD τ sig → ℕ) (p q : Fin 3) (hpq : p.val = q.val + 1) (hp : (i 0).val = p.val) (h7 : (i 1).val = 7)
    (a : S2048x1024.Idx → Elt F .f32) (hS : k0_pay4 (k0_pay2 (k0_pay9 x y) a) = S p c) (W : Waits sig Unit) :
    iprop(invs S K c ∗ levAts L lv ∗ ins c X Y x y ∗ accPts c a ∗ inflight q c ∗ unsent p c ∗ owes (c : Thread nD τ) (owe c p.val) W
        ∗ ((ins c X Y x y ∗ (∃ a', accPts c a') ∗ semVal (sendCell q c) 0 ∗ inflight p c
            ∗ (∃ W', owes (c : Thread nD τ) (owe c (p.val + 1)) W')) -∗ Q ⟨⟩))
      ⊢ wp frame (wpE (defs₀ (F := F)) 𝒱₀ (c : Thread nD τ) none) Set.univ (bodyAt (F := F) i X hX Y hY) Q := by
  have hp3 := p.isLt
  have c1 : ¬ k0_cond1 i = 1#1 := fun h => by have := (cond1_iff i).mp h; omega
  have c2 := mt (cond2_iff i).mp (by omega)
  have c3 := (cond3_iff i).mpr h7
  have c4 := (cond4_iff i c).mpr (by omega)
  have c5 := (cond5_iff i).mpr (by omega)
  have c6 : ¬ k0_cond6 i c = 1#1 := fun h => by have := (cond6_iff i c).mp h; omega
  have c7 : ¬ k0_cond7 i = 1#1 := fun h => by have := (cond7_iff i).mp h; omega
  unfold bodyAt
  rw [cc0_body_eq_skeleton]
  unfold cc0_body_skel
  rw [k0_part5_eq_skeleton]
  unfold k0_part5_skel
  simp only [dif_neg c1, dif_neg c2, dif_pos c3, dif_pos c4, dif_pos c5, dif_neg c6, dif_neg c7, Prog.lift, Prog.bind_op, Prog.bind_ret, Prog.pure_eq_ret, Prog.bind_assoc, wp_deviceId]
  iintro ⟨#HI, #Hlev, ⟨Hx, Hy⟩, Ha, Hf, Hu, HO, Hk⟩
  iapply (load_slot c x) $$ Hx
  iintro Hx
  iapply (load_slot c y) $$ Hy
  iintro Hy
  iapply (load_acc c a) $$ Ha
  iintro Ha
  iapply (load_acc c a) $$ Ha
  iintro Ha
  iapply (store_acc c a) $$ Ha
  iintro Ha
  iapply (load_acc c (k0_pay2 (k0_pay9 x y) a)) $$ Ha
  iintro Ha
  iapply (wait_send c S K q p.val _ (send_sem q _ _ (off1_eq i q (by omega))) W) $$ [Hf HO]
  · isplitr; · iexact HI
    isplitr; · iexact Hlev
    isplitl [Hf]; · iexact Hf
    iexact HO
  iintro ⟨Hz, Hg, HO⟩
  iapply (load_stg c (S q c)) $$ Hg
  iintro Hg
  iapply (store_stg c (S q c)) $$ Hg
  iintro Hg
  rw [hS]
  iapply (send_slot c S K p _ (Fin.ext (dev4_eq i p c hp)) _ (slot_eq p _ _ ((k0_off3_eq i).trans (by rw [hp]))) _ _
    (send_sem p _ _ ((k0_off2_eq i).trans (by rw [hp]))) (recv_sem p _ _ ((k0_off2_eq i).trans (by rw [hp]))) (owe c (p.val + 1))
    (insert (.dma (sendS q), ()) W)) $$ [Hg HO Hu]
  · isplitr; · iexact HI
    isplitl [Hg]; · iexact Hg
    isplitl [HO]; · rw [← owe_succ p c]; iexact HO
    iexact Hu
  iintro ⟨Hf, HO⟩
  rw [wp_ret]
  imodintro
  iapply Hk
  isplitl [Hx Hy]
  · isplitl [Hx]; · iexact Hx
    iexact Hy
  isplitl [Ha]; · iexists _; iexact Ha
  isplitl [Hz]; · iexact Hz
  isplitl [Hf]; · iexact Hf
  iexists _; iexact HO

/-- The result of device `c`: its own block, computed from the last accumulator `a`, and the three it received. -/
def outFin (c : Dev nD) (a : S2048x1024.Idx → Elt F .f32) (f : S8192x1024.Idx → Elt F .f32) : S8192x1024.Idx → Elt F .f32 :=
  setRow (src 2 c) (setRow (src 1 c) (setRow (src 0 c) (setRow c f (k0_pay5 a)) (k0_pay7 (S 0 (src 0 c)))) (k0_pay8 (S 1 (src 1 c))))
    (k0_pay6 (S 2 (src 2 c)))

/-- The last point of all. -/
theorem body_last (K : GSem nD τ sig → ℕ) (hp : (i 0).val = 3) (h7 : (i 1).val = 7)
    (a : S2048x1024.Idx → Elt F .f32) (f : S8192x1024.Idx → Elt F .f32) (W : Waits sig Unit) :
    iprop(invs S K c ∗ levAts L lv ∗ ins c X Y x y ∗ accPts c a ∗ inflight 2 c ∗ awaited 0 c ∗ awaited 1 c ∗ awaited 2 c
        ∗ outPts c f ∗ semVal (locCell c) 0 ∗ owes (c : Thread nD τ) (owe c 3) W
        ∗ ((ins c X Y x y ∗ (∃ a', accPts c a') ∗ (∃ g, stgPts c g) ∗ outPts c (outFin S c (k0_pay2 (k0_pay9 x y) a) f)
            ∗ semVal (sendCell 2 c) 0 ∗ (semVal (recvCell 0 c) 0 ∗ semVal (recvCell 1 c) 0 ∗ semVal (recvCell 2 c) 0)
            ∗ (slotAt 0 c (S 0 (src 0 c)) ∗ slotAt 1 c (S 1 (src 1 c)) ∗ slotAt 2 c (S 2 (src 2 c)))
            ∗ semVal (locCell c) 0 ∗ (∃ W', owes (c : Thread nD τ) 0 W')) -∗ Q ⟨⟩))
      ⊢ wp frame (wpE (defs₀ (F := F)) 𝒱₀ (c : Thread nD τ) none) Set.univ (bodyAt (F := F) i X hX Y hY) Q := by
  have c1 : ¬ k0_cond1 i = 1#1 := fun h => by have := (cond1_iff i).mp h; omega
  have c2 := mt (cond2_iff i).mp (by omega)
  have c3 := (cond3_iff i).mpr h7
  have c4 : ¬ k0_cond4 i c = 1#1 := fun h => by have := (cond4_iff i c).mp h; omega
  have c6 := (cond6_iff i c).mpr hp
  have c7 := (cond7_iff i).mpr ⟨hp, h7⟩
  unfold bodyAt
  rw [cc0_body_eq_skeleton]
  unfold cc0_body_skel
  rw [k0_part5_eq_skeleton, k0_part2_eq_skeleton, k0_part3_eq_skeleton, k0_part4_eq_skeleton]
  unfold k0_part5_skel k0_part2_skel k0_part3_skel k0_part4_skel
  simp only [dif_neg c1, dif_neg c2, dif_pos c3, dif_neg c4, dif_pos c6, dif_pos c7, Prog.lift, Prog.bind_op, Prog.bind_ret, Prog.pure_eq_ret, Prog.bind_assoc, wp_deviceId]
  iintro ⟨#HI, #Hlev, ⟨Hx, Hy⟩, Ha, Hf, HR0, HR1, HR2, Ho, Hv, HO, Hk⟩
  iapply (load_slot c x) $$ Hx
  iintro Hx
  iapply (load_slot c y) $$ Hy
  iintro Hy
  iapply (load_acc c a) $$ Ha
  iintro Ha
  iapply (load_acc c a) $$ Ha
  iintro Ha
  iapply (store_acc c a) $$ Ha
  iintro Ha
  iapply (load_acc c _) $$ Ha
  iintro Ha
  iapply (load_acc c _) $$ Ha
  iintro Ha
  iapply (store_acc c _) $$ Ha
  iintro Ha
  iapply (copy_out c c _ _ (row_eq c _ _ (k0_off4_eq c)) (row_eq c _ _ (k0_off5_eq c)) f _ _) $$ [Ha Ho Hv HO]
  · isplitl [Ha]; · iexact Ha
    isplitl [Ho]; · iexact Ho
    isplitl [Hv]; · iexact Hv
    rw [← owe_3 c]; iexact HO
  iintro ⟨Ha, Ho, Hv, HO⟩
  iapply (wait_send c S K 2 3 _ (send_sem 2 _ _ rfl) _) $$ [Hf HO]
  · isplitr; · iexact HI
    isplitr; · iexact Hlev
    isplitl [Hf]; · iexact Hf
    rw [owe_3 c]; iexact HO
  iintro ⟨Hz, Hg, HO⟩
  rw [owe_3 c]
  iapply (wait_recv c S K 0 _ (recv_sem 0 _ _ rfl) _ (slot_eq 0 _ _ rfl) _) $$ [HR0 HO]
  · isplitr; · iexact HI
    isplitl [HR0]; · iexact HR0
    iexact HO
  iintro ⟨Hz0, Hs0, HO⟩
  iapply (copy_slot c 0 _ _ (slot_eq 0 _ _ rfl) (slot_eq 0 _ _ rfl) _ (S 0 (src 0 c)) _) $$ [Hs0 Hg Hv HO]
  · isplitl [Hs0]; · iexact Hs0
    isplitl [Hg]; · iexact Hg
    isplitl [Hv]; · iexact Hv
    iexact HO
  iintro ⟨Hs0, Hg, Hv, HO⟩
  iapply (load_stg c (S 0 (src 0 c))) $$ Hg
  iintro Hg
  iapply (load_acc c _) $$ Ha
  iintro Ha
  iapply (store_acc c _) $$ Ha
  iintro Ha
  iapply (copy_out c (src 0 c) _ _ (row_eq (src 0 c) _ _ (off6_eq 0 c)) (row_eq (src 0 c) _ _ (off6_eq 0 c)) _ _ _) $$ [Ha Ho Hv HO]
  · isplitl [Ha]; · iexact Ha
    isplitl [Ho]; · iexact Ho
    isplitl [Hv]; · iexact Hv
    iexact HO
  iintro ⟨Ha, Ho, Hv, HO⟩
  iapply (wait_recv c S K 1 _ (recv_sem 1 _ _ rfl) _ (slot_eq 1 _ _ rfl) _) $$ [HR1 HO]
  · isplitr; · iexact HI
    isplitl [HR1]; · iexact HR1
    iexact HO
  iintro ⟨Hz1, Hs1, HO⟩
  iapply (copy_slot c 1 _ _ (slot_eq 1 _ _ rfl) (slot_eq 1 _ _ rfl) _ (S 1 (src 1 c)) _) $$ [Hs1 Hg Hv HO]
  · isplitl [Hs1]; · iexact Hs1
    isplitl [Hg]; · iexact Hg
    isplitl [Hv]; · iexact Hv
    iexact HO
  iintro ⟨Hs1, Hg, Hv, HO⟩
  iapply (load_stg c (S 1 (src 1 c))) $$ Hg
  iintro Hg
  iapply (load_acc c _) $$ Ha
  iintro Ha
  iapply (store_acc c _) $$ Ha
  iintro Ha
  iapply (copy_out c (src 1 c) _ _ (row_eq (src 1 c) _ _ (off6_eq 1 c)) (row_eq (src 1 c) _ _ (off6_eq 1 c)) _ _ _) $$ [Ha Ho Hv HO]
  · isplitl [Ha]; · iexact Ha
    isplitl [Ho]; · iexact Ho
    isplitl [Hv]; · iexact Hv
    iexact HO
  iintro ⟨Ha, Ho, Hv, HO⟩
  iapply (wait_recv c S K 2 _ (recv_sem 2 _ _ rfl) _ (slot_eq 2 _ _ rfl) _) $$ [HR2 HO]
  · isplitr; · iexact HI
    isplitl [HR2]; · iexact HR2
    iexact HO
  iintro ⟨Hz2, Hs2, HO⟩
  iapply (copy_slot c 2 _ _ (slot_eq 2 _ _ rfl) (slot_eq 2 _ _ rfl) _ (S 2 (src 2 c)) _) $$ [Hs2 Hg Hv HO]
  · isplitl [Hs2]; · iexact Hs2
    isplitl [Hg]; · iexact Hg
    isplitl [Hv]; · iexact Hv
    iexact HO
  iintro ⟨Hs2, Hg, Hv, HO⟩
  iapply (load_stg c (S 2 (src 2 c))) $$ Hg
  iintro Hg
  iapply (load_acc c _) $$ Ha
  iintro Ha
  iapply (store_acc c _) $$ Ha
  iintro Ha
  iapply (copy_out c (src 2 c) _ _ (row_eq (src 2 c) _ _ (off6_eq 2 c)) (row_eq (src 2 c) _ _ (off6_eq 2 c)) _ _ _) $$ [Ha Ho Hv HO]
  · isplitl [Ha]; · iexact Ha
    isplitl [Ho]; · iexact Ho
    isplitl [Hv]; · iexact Hv
    iexact HO
  iintro ⟨Ha, Ho, Hv, HO⟩
  rw [wp_ret]
  imodintro
  iapply Hk
  isplitl [Hx Hy]
  · isplitl [Hx]; · iexact Hx
    iexact Hy
  isplitl [Ha]; · iexists _; iexact Ha
  isplitl [Hg]; · iexists _; iexact Hg
  isplitl [Ho]; · unfold outFin; iexact Ho
  isplitl [Hz]; · iexact Hz
  isplitl [Hz0 Hz1 Hz2]
  · isplitl [Hz0]; · iexact Hz0
    isplitl [Hz1]; · iexact Hz1
    iexact Hz2
  isplitl [Hs0 Hs1 Hs2]
  · isplitl [Hs0]; · iexact Hs0
    isplitl [Hs1]; · iexact Hs1
    iexact Hs2
  isplitl [Hv]; · iexact Hv
  iexists _; iexact HO

end Cert.KernelIdeal.Ring

end
-- ==== Proof.Data.lean ====
/-
  The tables the pipeline is pinned at, the blocks it stages, the accumulator after each point, and the invariant that the
  body keeps from point to point.
-/
module

public import proofs.«01_k».proof.Proof.Body
public import Idealize.ShloMosaic.PureOps.BitExact

@[expose] public section

set_option maxRecDepth 16384

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

/-! ## The prefetched table: the device's own number -/

abbrev me (c : Dev nD) : pre0.Contents (Elt F) := fun
  | 0 => fun _ => Dev.word c
  | ⟨_ + 1, h⟩ => absurd h (Nat.not_lt.2 (Nat.le_add_left _ _))

/-- The column block that device `c` computes in phase `p`: its target's, and its own in the last. -/
def colOf (p : Fin 4) (c : Dev nD) : Fin 4 := c + (![2, 1, 3, 0] : Fin 4 → Fin 4) p

theorem block1_at : ∀ (c : Dev nD) (i : grid0.Coords),
    cc0_transform_1 (F := Bits) inb_S1_S1_0 numel1_S1 (me c) i = ![(i 1).val, (colOf (i 0) c).val] := by decide +kernel
theorem block1_eq (c : Dev nD) (i : grid0.Coords) :
    cc0_transform_1 (F := F) inb_S1_S1_0 numel1_S1 (me c) i = ![(i 1).val, (colOf (i 0) c).val] := block1_at c i
theorem block0_eq : ∀ i : grid0.Coords, cc0_transform_0 i = ![0, (i 1).val] := by decide +kernel
theorem block1_inb : ∀ (c : Dev nD) (i : grid0.Coords) (a : Fin 2),
    ((![(i 1).val, (colOf (i 0) c).val] : Fin 2 → ℕ) a + 1) * S1024x1024.size a ≤ S8192x4096.size a := by decide +kernel

theorem me_ok (c : Dev nD) : ok0 (F := F) (me c) := by
  unfold ok0
  exact fun i => ⟨fun a => by rw [block1_eq]; exact block1_inb c i a, .inl rfl⟩

abbrev adm (c : Dev nD) : (p : Fin 1) → (pcfgs (F := F) p).Adm := fun _ => ⟨me c, me_ok c⟩

/-! ## The points -/

theorem pt_lt (n : ℕ) : n % 32 < grid0.N := by rw [N_0]; exact Nat.mod_lt _ (by decide)
/-- Point `n`. -/
abbrev pt (n : ℕ) : Fin grid0.N := ⟨n % 32, pt_lt n⟩
theorem pt_val (t : Fin grid0.N) : pt t.val = t := Fin.ext (Nat.mod_eq_of_lt (lt_of_lt_of_eq t.isLt N_0))
theorem coord0 : ∀ t : Fin grid0.N, (grid0.coords t 0).val = t.val / 8 := by decide +kernel
theorem coord1 : ∀ t : Fin grid0.N, (grid0.coords t 1).val = t.val % 8 := by decide +kernel

/-! ## The staged blocks -/

variable (m : (ℓ : Loc nD τ sig) → Buf (Elt F) ℓ)

abbrev xArg (c : Dev nD) : S2048x8192.Idx → Elt F .f32 := m ((c : Thread nD τ).loc main_arg0)
abbrev wArg (c : Dev nD) : S8192x4096.Idx → Elt F .f32 := m ((c : Thread nD τ).loc main_arg1)

/-- The blocks of the two operands that point `t` stages on device `c`. -/
def xb (c : Dev nD) (t : Fin grid0.N) : S2048x1024.Idx → Elt F .f32 := ((win0 (adm (F := F) c 0) 0).blk t).view.read (Elt F) (xArg m c)
def wb (c : Dev nD) (t : Fin grid0.N) : S1024x1024.Idx → Elt F .f32 := ((win0 (adm (F := F) c 0) 1).blk t).view.read (Elt F) (wArg m c)

/-- The product that point `n` adds to the accumulator `a`. -/
def step (c : Dev nD) (n : ℕ) (a : S2048x1024.Idx → Elt F .f32) : S2048x1024.Idx → Elt F .f32 :=
  k0_pay2 (k0_pay9 (xb m c (pt n)) (wb m c (pt n))) a

/-- The accumulator of device `c` after point `n`. -/
def part (c : Dev nD) : ℕ → S2048x1024.Idx → Elt F .f32
  | 0 => step m c 0 (k0_pay1 (F := F))
  | n + 1 => step m c (n + 1) (if (n + 1) % 8 = 0 then k0_pay1 (F := F) else part c n)

theorem part_first (c : Dev nD) (n : ℕ) (h : n % 8 = 0) : part m c n = step m c n (k0_pay1 (F := F)) := by
  cases n with
  | zero => rfl
  | succ n => unfold part; rw [if_pos h]
theorem part_next (c : Dev nD) (n : ℕ) (h : n % 8 ≠ 0) : part m c n = step m c n (part m c (n - 1)) := by
  cases n with
  | zero => exact absurd rfl h
  | succ n => conv => lhs; unfold part
              rw [if_neg h]; rfl

/-- What device `c` sends in phase `p`: the accumulator after the phase's last point, its activation, as bf16. -/
def sent : Sent F := fun p c => k0_pay4 (part m c (8 * p.val + 7))

/-! ## The invariant between points -/

/-- The phases' sending halves when the phases below `s` have sent. -/
def sends (c : Dev nD) : ℕ → sProp (MM F)
  | 0 => iprop((∃ g, stgPts c g) ∗ unsent 0 c ∗ unsent 1 c ∗ unsent 2 c)
  | 1 => iprop(inflight 0 c ∗ unsent 1 c ∗ unsent 2 c)
  | 2 => iprop(semVal (sendCell 0 c) 0 ∗ inflight 1 c ∗ unsent 2 c)
  | _ => iprop(semVal (sendCell 0 c) 0 ∗ semVal (sendCell 1 c) 0 ∗ inflight 2 c)

theorem sends_0 (c : Dev nD) : sends (F := F) c 0 = iprop((∃ g, stgPts c g) ∗ unsent 0 c ∗ unsent 1 c ∗ unsent 2 c) := rfl
theorem sends_1 (c : Dev nD) : sends (F := F) c 1 = iprop(inflight 0 c ∗ unsent 1 c ∗ unsent 2 c) := rfl
theorem sends_2 (c : Dev nD) : sends (F := F) c 2 = iprop(semVal (sendCell 0 c) 0 ∗ inflight 1 c ∗ unsent 2 c) := rfl
theorem sends_3 (c : Dev nD) : sends (F := F) c 3 = iprop(semVal (sendCell 0 c) 0 ∗ semVal (sendCell 1 c) 0 ∗ inflight 2 c) := rfl

/-- Phase `p` before the barrier: what `unsent` has, but for the target's slot. -/
def unmet (p : Fin 3) (c : Dev nD) : sProp (MM F) :=
  iprop(dutyTok ER (sendCell p c) 0 0 ∗ dutyTok ER (recvCell p (tgt p c)) 0 0 ∗ atPos ER (sendCell p c) 0 ∅ 0
    ∗ reached ER (sendCell p c) 0)

/-- What every point may consult. -/
def common (c : Dev nD) : sProp (MM F) := iprop((∃ K, invs (sent m) K c) ∗ levAts L lv)

def first (c : Dev nD) : sProp (MM F) :=
  iprop(common m c ∗ (cred (tallyAt (barCell c) () 3) ∗ atPos ER (barCell c) 0 ∅ 0) ∗ (meet 0 c ∗ meet 1 c ∗ meet 2 c)
    ∗ (unmet 0 c ∗ unmet 1 c ∗ unmet 2 c) ∗ (awaited 0 c ∗ awaited 1 c ∗ awaited 2 c)
    ∗ (∃ a, accPts c a) ∗ (∃ g, stgPts c g) ∗ (∃ f, outPts c f) ∗ semVal (locCell c) 0)

def inside (c : Dev nD) (n : ℕ) : sProp (MM F) :=
  iprop(common m c ∗ semVal (barCell c) 0 ∗ sends c (n / 8) ∗ (awaited 0 c ∗ awaited 1 c ∗ awaited 2 c)
    ∗ (∃ a, ⌜n % 8 ≠ 0 → a = part m c (n - 1)⌝ ∗ accPts c a) ∗ (∃ f, outPts c f) ∗ semVal (locCell c) 0)

def final (c : Dev nD) : sProp (MM F) :=
  iprop((∃ a, accPts c a) ∗ (∃ g, stgPts c g) ∗ (∃ f, outPts c (outFin (sent m) c (part m c 31) f))
    ∗ (semVal (sendCell 0 c) 0 ∗ semVal (sendCell 1 c) 0 ∗ semVal (sendCell 2 c) 0)
    ∗ (semVal (recvCell 0 c) 0 ∗ semVal (recvCell 1 c) 0 ∗ semVal (recvCell 2 c) 0)
    ∗ semVal (locCell c) 0 ∗ semVal (barCell c) 0)

def Inv (c : Dev nD) (n : ℕ) : sProp (MM F) := if n = 0 then first m c else if n = 32 then final m c else inside m c n
theorem Inv_zero (c : Dev nD) : Inv m c 0 = first m c := if_pos rfl
theorem Inv_last (c : Dev nD) : Inv m c 32 = final m c := by unfold Inv; rw [if_neg (by decide), if_pos rfl]
theorem Inv_mid (c : Dev nD) (n : ℕ) (h0 : n ≠ 0) (h1 : n ≠ 32) : Inv m c n = inside m c n := by unfold Inv; rw [if_neg h0, if_neg h1]

/-- What device `c` owes before point `n`. -/
def due (c : Dev nD) (n : ℕ) : CellTallies nD τ sig Unit := if n = 0 then O₀ c else owe c (n / 8)
theorem due_zero (c : Dev nD) : due c 0 = O₀ c := if_pos rfl
theorem due_pos (c : Dev nD) (n : ℕ) (h : n ≠ 0) : due c n = owe c (n / 8) := if_neg h

/-- The proof data of the pipeline on device `c`. -/
def dat0 (c : Dev nD) : Dat τ (Elt F) Unit ℕ UU ℕ (cfg0 (adm (F := F) c 0)) c where
  A w := match w with
    | ⟨0, _⟩ => xArg m c
    | ⟨1, _⟩ => wArg m c
  after w t := match w with
    | ⟨0, _⟩ => xb m c t
    | ⟨1, _⟩ => wb m c t
  Φ t := Inv m c t.val
  q _ := fullShare
  owed t := due c t.val

abbrev pdats (_ : Fin 1) (c : Dev nD) : Dat τ (Elt F) Unit ℕ UU ℕ (cfg0 (adm (F := F) c 0)) c := dat0 m c

theorem fetch0 (c : Dev nD) (t : Fin grid0.N) : (win0 (adm (F := F) c 0) 0).fetch t = true :=
  (Pipeline.Window.fetch_reads (win0 (adm (F := F) c 0) 0) rfl 1 (by decide) (show grid0.fixedAfter (spec0 0).reads 1 = true by decide)
    (fun i i' h => Fin.ext (by
      have h' : cc0_transform_0 i = cc0_transform_0 i' := h
      rw [block0_eq, block0_eq] at h'; exact congrFun h' 1)) (P := 1) (by decide) t).mpr (Nat.mod_one _)
theorem fetch1 (c : Dev nD) (t : Fin grid0.N) : (win0 (adm (F := F) c 0) 1).fetch t = true :=
  (Pipeline.Window.fetch_reads (win0 (adm (F := F) c 0) 1) rfl 1 (by decide) (show grid0.fixedAfter (spec0 1).reads 1 = true by decide)
    (fun i i' h => Fin.ext (by
      have h' : cc0_transform_1 (F := F) inb_S1_S1_0 numel1_S1 (me c) i = cc0_transform_1 inb_S1_S1_0 numel1_S1 (me c) i' := h
      rw [block1_eq, block1_eq] at h'; exact congrFun h' 0)) (P := 1) (by decide) t).mpr (Nat.mod_one _)

theorem before0 (c : Dev nD) (t : Fin grid0.N) (d) : (dat0 m c).before 0 t d = xb m c t := by
  unfold Dat.before; exact (if_pos (fetch0 (F := F) c t)).trans rfl
theorem before1 (c : Dev nD) (t : Fin grid0.N) (d) : (dat0 m c).before 1 t d = wb m c t := by
  unfold Dat.before; exact (if_pos (fetch1 (F := F) c t)).trans rfl

end Cert.KernelIdeal.Ring

end
-- ==== Proof.Points.lean ====
/-
  The body keeps the invariant at every point of the grid.
-/
module

public import proofs.«01_k».proof.Proof.Data

@[expose] public section

set_option maxRecDepth 16384

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

variable (m : (ℓ : Loc nD τ sig) → Buf (Elt F) ℓ) (c : Dev nD) (t : Fin grid0.N)
  (X : Memref sig .tc .vmem S2048x1024 .f32) (hX : X.IsWhole) (Y : Memref sig .tc .vmem S1024x1024 .f32) (hY : Y.IsWhole)

theorem step_eq (a : S2048x1024.Idx → Elt F .f32) : k0_pay2 (k0_pay9 (xb m c t) (wb m c t)) a = step m c t.val a := by
  unfold step; rw [pt_val]

/-- What a point leaves. -/
abbrev left (n : ℕ) : sProp (MM F) :=
  iprop(Inv m c (n + 1) ∗ (∃ W, owes (c : Thread nD τ) (due c (n + 1)) W) ∗ ins c X Y (xb m c t) (wb m c t))

/-- What a point finds. -/
abbrev found (n : ℕ) : sProp (MM F) :=
  iprop(Inv m c n ∗ (∃ W, owes (c : Thread nD τ) (due c n) W) ∗ ins c X Y (xb m c t) (wb m c t))

/-- What is claimed of the body at point `t`. -/
abbrev Keeps : Prop :=
  found m c t X Y t.val ⊢ wp frame (wpE (defs₀ (F := F)) 𝒱₀ (c : Thread nD τ) none) Set.univ
    (bodyAt (F := F) (grid0.coords t) X hX Y hY) fun _ => left m c t X Y t.val

theorem keeps_first (h : t.val = 0) : Keeps m c t X hX Y hY := by
  have h0 : (grid0.coords t 0).val = 0 := by rw [coord0, h]
  have h1 : (grid0.coords t 1).val = 0 := by rw [coord1, h]
  unfold Keeps found left
  rw [h, Inv_zero, Inv_mid m c (0 + 1) (by decide) (by decide), due_zero, due_pos c (0 + 1) (by decide)]
  unfold first inside common unmet
  rw [show (0 + 1) / 8 = 0 from rfl, sends_0]
  iintro ⟨⟨⟨⟨%K, #HI⟩, #Hlev⟩, ⟨Hc, Hat⟩, ⟨Hm0, Hm1, Hm2⟩, ⟨⟨Ha0, Hb0, Hd0, He0⟩, ⟨Ha1, Hb1, Hd1, He1⟩, ⟨Ha2, Hb2, Hd2, He2⟩⟩, Haw, ⟨%a, Ha⟩, Hg, Hf, Hloc⟩, ⟨%W, HO⟩, Hins⟩
  iapply (body_first (sent m) c (grid0.coords t) X hX Y hY (xb m c t) (wb m c t) K h0 h1 a W)
  isplitr; · iexact HI
  isplitr; · iexact Hlev
  isplitl [Hins]; · iexact Hins
  isplitl [Ha]; · iexact Ha
  isplitl [Hc]; · iexact Hc
  isplitl [Hat]; · iexact Hat
  isplitl [HO]; · iexact HO
  isplitl [Hm0]; · iexact Hm0
  isplitl [Hm1]; · iexact Hm1
  isplitl [Hm2]; · iexact Hm2
  iintro ⟨Hins, Ha, Hbar, HO, Hp0, Hp1, Hp2⟩
  isplitr [HO Hins]
  · isplitr; · isplitr; · iexists K; iexact HI
               iexact Hlev
    isplitl [Hbar]; · iexact Hbar
    isplitl [Hg Ha0 Hb0 Hd0 He0 Hp0 Ha1 Hb1 Hd1 He1 Hp1 Ha2 Hb2 Hd2 He2 Hp2]
    · isplitl [Hg]; · iexact Hg
      unfold unsent
      isplitl [Ha0 Hb0 Hd0 He0 Hp0]
      · isplitl [Ha0]; · iexact Ha0
        isplitl [Hb0]; · iexact Hb0
        isplitl [Hd0]; · iexact Hd0
        isplitl [He0]; · iexact He0
        iexact Hp0
      isplitl [Ha1 Hb1 Hd1 He1 Hp1]
      · isplitl [Ha1]; · iexact Ha1
        isplitl [Hb1]; · iexact Hb1
        isplitl [Hd1]; · iexact Hd1
        isplitl [He1]; · iexact He1
        iexact Hp1
      · isplitl [Ha2]; · iexact Ha2
        isplitl [Hb2]; · iexact Hb2
        isplitl [Hd2]; · iexact Hd2
        isplitl [He2]; · iexact He2
        iexact Hp2
    isplitl [Haw]; · iexact Haw
    isplitl [Ha]
    · iexists (k0_pay2 (k0_pay9 (xb m c t) (wb m c t)) (k0_pay1 (F := F)))
      isplitr
      · ipureintro; intro _; rw [step_eq, h]; rfl
      · iexact Ha
    isplitl [Hf]; · iexact Hf
    iexact Hloc
  · isplitl [HO]; · iexact HO
    iexact Hins

theorem keeps_zero (h : t.val ≠ 0) (hz : t.val % 8 = 0) : Keeps m c t X hX Y hY := by
  have hN := lt_of_lt_of_eq t.isLt N_0
  have h0 : (grid0.coords t 0).val ≠ 0 := by rw [coord0]; omega
  have h1 : (grid0.coords t 1).val = 0 := by rw [coord1, hz]
  unfold Keeps found left
  rw [Inv_mid m c t.val h (by omega), Inv_mid m c (t.val + 1) (by omega) (by omega), due_pos c t.val h, due_pos c (t.val + 1) (by omega)]
  unfold inside
  rw [show (t.val + 1) / 8 = t.val / 8 by omega]
  iintro ⟨⟨Hcom, Hbar, Hs, Haw, ⟨%a, -, Ha⟩, Hf, Hloc⟩, HO, Hins⟩
  iapply (body_zero c (grid0.coords t) X hX Y hY (xb m c t) (wb m c t) h0 h1 a)
  isplitl [Hins]; · iexact Hins
  isplitl [Ha]; · iexact Ha
  iintro ⟨Hins, Ha⟩
  isplitr [HO Hins]
  · isplitl [Hcom]; · iexact Hcom
    isplitl [Hbar]; · iexact Hbar
    isplitl [Hs]; · iexact Hs
    isplitl [Haw]; · iexact Haw
    isplitl [Ha]
    · iexists (k0_pay2 (k0_pay9 (xb m c t) (wb m c t)) (k0_pay1 (F := F)))
      isplitr
      · ipureintro; intro _; rw [step_eq, Nat.add_sub_cancel, part_first m c _ hz]
      · iexact Ha
    isplitl [Hf]; · iexact Hf
    iexact Hloc
  · isplitl [HO]; · iexact HO
    iexact Hins

theorem keeps_mid (hz : t.val % 8 ≠ 0) (h7 : t.val % 8 ≠ 7) : Keeps m c t X hX Y hY := by
  have hN := lt_of_lt_of_eq t.isLt N_0
  have h0 : (grid0.coords t 1).val ≠ 0 := by rw [coord1]; exact hz
  have h1 : (grid0.coords t 1).val ≠ 7 := by rw [coord1]; exact h7
  unfold Keeps found left
  rw [Inv_mid m c t.val (by omega) (by omega), Inv_mid m c (t.val + 1) (by omega) (by omega), due_pos c t.val (by omega), due_pos c (t.val + 1) (by omega)]
  unfold inside
  rw [show (t.val + 1) / 8 = t.val / 8 by omega]
  iintro ⟨⟨Hcom, Hbar, Hs, Haw, ⟨%a, %ha, Ha⟩, Hf, Hloc⟩, HO, Hins⟩
  iapply (body_mid c (grid0.coords t) X hX Y hY (xb m c t) (wb m c t) h0 h1 a)
  isplitl [Hins]; · iexact Hins
  isplitl [Ha]; · iexact Ha
  iintro ⟨Hins, Ha⟩
  isplitr [HO Hins]
  · isplitl [Hcom]; · iexact Hcom
    isplitl [Hbar]; · iexact Hbar
    isplitl [Hs]; · iexact Hs
    isplitl [Haw]; · iexact Haw
    isplitl [Ha]
    · iexists (k0_pay2 (k0_pay9 (xb m c t) (wb m c t)) a)
      isplitr
      · ipureintro; intro _; rw [step_eq, Nat.add_sub_cancel, part_next m c _ hz, ha hz]
      · iexact Ha
    isplitl [Hf]; · iexact Hf
    iexact Hloc
  · isplitl [HO]; · iexact HO
    iexact Hins

/-- The accumulator that a phase's last point sends. -/
theorem sent_eq (p : Fin 3) (h : t.val = 8 * p.val + 7) (a : S2048x1024.Idx → Elt F .f32) (ha : t.val % 8 ≠ 0 → a = part m c (t.val - 1)) :
    k0_pay4 (k0_pay2 (k0_pay9 (xb m c t) (wb m c t)) a) = sent m p c := by
  have hz : t.val % 8 ≠ 0 := by omega
  unfold sent
  rw [step_eq, ha hz, ← part_next m c _ hz, h]

theorem keeps_send0 (h : t.val = 7) : Keeps m c t X hX Y hY := by
  have h0 : (grid0.coords t 0).val = 0 := by rw [coord0, h]
  have h1 : (grid0.coords t 1).val = 7 := by rw [coord1, h]
  unfold Keeps found left
  rw [Inv_mid m c t.val (by omega) (by omega), Inv_mid m c (t.val + 1) (by omega) (by omega), due_pos c t.val (by omega), due_pos c (t.val + 1) (by omega)]
  unfold inside
  rw [show (t.val + 1) / 8 = 1 by omega, show t.val / 8 = 0 by omega, sends_1, sends_0]
  unfold common
  iintro ⟨⟨⟨⟨%K, #HI⟩, #Hlev⟩, Hbar, ⟨⟨%g, Hg⟩, Hu0, Hu1, Hu2⟩, Haw, ⟨%a, %ha, Ha⟩, Hf, Hloc⟩, ⟨%W, HO⟩, Hins⟩
  iapply (body_send0 (sent m) c (grid0.coords t) X hX Y hY (xb m c t) (wb m c t) K h0 h1 a (sent_eq m c t 0 h a ha) g W)
  isplitr; · iexact HI
  isplitl [Hins]; · iexact Hins
  isplitl [Ha]; · iexact Ha
  isplitl [Hg]; · iexact Hg
  isplitl [Hu0]; · iexact Hu0
  isplitl [HO]; · iexact HO
  iintro ⟨Hins, ⟨%a', Ha⟩, Hi, HO⟩
  isplitr [HO Hins]
  · isplitr; · isplitr; · iexists K; iexact HI
               iexact Hlev
    isplitl [Hbar]; · iexact Hbar
    isplitl [Hi Hu1 Hu2]
    · isplitl [Hi]; · iexact Hi
      isplitl [Hu1]; · iexact Hu1
      iexact Hu2
    isplitl [Haw]; · iexact Haw
    isplitl [Ha]
    · iexists a'
      isplitr
      · ipureintro; intro hn; exact absurd (show (t.val + 1) % 8 = 0 by omega) hn
      · iexact Ha
    isplitl [Hf]; · iexact Hf
    iexact Hloc
  · isplitl [HO]; · iexact HO
    iexact Hins

theorem keeps_send1 (h : t.val = 15) : Keeps m c t X hX Y hY := by
  have h0 : (grid0.coords t 0).val = (1 : Fin 3).val := by rw [coord0, h]; rfl
  have h1 : (grid0.coords t 1).val = 7 := by rw [coord1, h]
  unfold Keeps found left
  rw [Inv_mid m c t.val (by omega) (by omega), Inv_mid m c (t.val + 1) (by omega) (by omega), due_pos c t.val (by omega), due_pos c (t.val + 1) (by omega)]
  unfold inside
  rw [show (t.val + 1) / 8 = 2 by omega, show t.val / 8 = 1 by omega, sends_2, sends_1]
  unfold common
  iintro ⟨⟨⟨⟨%K, #HI⟩, #Hlev⟩, Hbar, ⟨Hi0, Hu1, Hu2⟩, Haw, ⟨%a, %ha, Ha⟩, Hf, Hloc⟩, ⟨%W, HO⟩, Hins⟩
  iapply (body_send (sent m) c (grid0.coords t) X hX Y hY (xb m c t) (wb m c t) K 1 0 rfl h0 h1 a (sent_eq m c t 1 h a ha) W)
  isplitr; · iexact HI
  isplitr; · iexact Hlev
  isplitl [Hins]; · iexact Hins
  isplitl [Ha]; · iexact Ha
  isplitl [Hi0]; · iexact Hi0
  isplitl [Hu1]; · iexact Hu1
  isplitl [HO]; · iexact HO
  iintro ⟨Hins, ⟨%a', Ha⟩, Hs0, Hi, HO⟩
  isplitr [HO Hins]
  · isplitr; · isplitr; · iexists K; iexact HI
               iexact Hlev
    isplitl [Hbar]; · iexact Hbar
    isplitl [Hs0 Hi Hu2]
    · isplitl [Hs0]; · iexact Hs0
      isplitl [Hi]; · iexact Hi
      iexact Hu2
    isplitl [Haw]; · iexact Haw
    isplitl [Ha]
    · iexists a'
      isplitr
      · ipureintro; intro hn; exact absurd (show (t.val + 1) % 8 = 0 by omega) hn
      · iexact Ha
    isplitl [Hf]; · iexact Hf
    iexact Hloc
  · isplitl [HO]; · iexact HO
    iexact Hins

theorem keeps_send2 (h : t.val = 23) : Keeps m c t X hX Y hY := by
  have h0 : (grid0.coords t 0).val = (2 : Fin 3).val := by rw [coord0, h]; rfl
  have h1 : (grid0.coords t 1).val = 7 := by rw [coord1, h]
  unfold Keeps found left
  rw [Inv_mid m c t.val (by omega) (by omega), Inv_mid m c (t.val + 1) (by omega) (by omega), due_pos c t.val (by omega), due_pos c (t.val + 1) (by omega)]
  unfold inside
  rw [show (t.val + 1) / 8 = 3 by omega, show t.val / 8 = 2 by omega, sends_3, sends_2]
  unfold common
  iintro ⟨⟨⟨⟨%K, #HI⟩, #Hlev⟩, Hbar, ⟨Hs0, Hi1, Hu2⟩, Haw, ⟨%a, %ha, Ha⟩, Hf, Hloc⟩, ⟨%W, HO⟩, Hins⟩
  iapply (body_send (sent m) c (grid0.coords t) X hX Y hY (xb m c t) (wb m c t) K 2 1 rfl h0 h1 a (sent_eq m c t 2 h a ha) W)
  isplitr; · iexact HI
  isplitr; · iexact Hlev
  isplitl [Hins]; · iexact Hins
  isplitl [Ha]; · iexact Ha
  isplitl [Hi1]; · iexact Hi1
  isplitl [Hu2]; · iexact Hu2
  isplitl [HO]; · iexact HO
  iintro ⟨Hins, ⟨%a', Ha⟩, Hs1, Hi, HO⟩
  isplitr [HO Hins]
  · isplitr; · isplitr; · iexists K; iexact HI
               iexact Hlev
    isplitl [Hbar]; · iexact Hbar
    isplitl [Hs0 Hs1 Hi]
    · isplitl [Hs0]; · iexact Hs0
      isplitl [Hs1]; · iexact Hs1
      iexact Hi
    isplitl [Haw]; · iexact Haw
    isplitl [Ha]
    · iexists a'
      isplitr
      · ipureintro; intro hn; exact absurd (show (t.val + 1) % 8 = 0 by omega) hn
      · iexact Ha
    isplitl [Hf]; · iexact Hf
    iexact Hloc
  · isplitl [HO]; · iexact HO
    iexact Hins

theorem keeps_last (h : t.val = 31) : Keeps m c t X hX Y hY := by
  have h0 : (grid0.coords t 0).val = 3 := by rw [coord0, h]
  have h1 : (grid0.coords t 1).val = 7 := by rw [coord1, h]
  unfold Keeps found left
  rw [Inv_mid m c t.val (by omega) (by omega), show t.val + 1 = 32 by omega, Inv_last, due_pos c t.val (by omega), due_pos c 32 (by omega)]
  unfold inside
  rw [show t.val / 8 = 3 by omega, show 32 / 8 = 4 by omega, show owe c 4 = 0 from rfl, sends_3]
  unfold common final
  iintro ⟨⟨⟨⟨%K, #HI⟩, #Hlev⟩, Hbar, ⟨Hs0, Hs1, Hi2⟩, ⟨Hw0, Hw1, Hw2⟩, ⟨%a, %ha, Ha⟩, ⟨%f, Hf⟩, Hloc⟩, ⟨%W, HO⟩, Hins⟩
  iapply (body_last (sent m) c (grid0.coords t) X hX Y hY (xb m c t) (wb m c t) K h0 h1 a f W)
  isplitr; · iexact HI
  isplitr; · iexact Hlev
  isplitl [Hins]; · iexact Hins
  isplitl [Ha]; · iexact Ha
  isplitl [Hi2]; · iexact Hi2
  isplitl [Hw0]; · iexact Hw0
  isplitl [Hw1]; · iexact Hw1
  isplitl [Hw2]; · iexact Hw2
  isplitl [Hf]; · iexact Hf
  isplitl [Hloc]; · iexact Hloc
  isplitl [HO]; · iexact HO
  rw [show k0_pay2 (k0_pay9 (xb m c t) (wb m c t)) a = part m c 31 by
    rw [step_eq, ha (by omega), ← part_next m c _ (by omega), h]]
  iintro ⟨Hins, Ha, Hg, Hf, Hs2, Hr, -, Hloc, HO⟩
  isplitr [HO Hins]
  · isplitl [Ha]; · iexact Ha
    isplitl [Hg]; · iexact Hg
    isplitl [Hf]; · iexists f; iexact Hf
    isplitl [Hs0 Hs1 Hs2]
    · isplitl [Hs0]; · iexact Hs0
      isplitl [Hs1]; · iexact Hs1
      iexact Hs2
    isplitl [Hr]; · iexact Hr
    isplitl [Hloc]; · iexact Hloc
    iexact Hbar
  · isplitl [HO]; · iexact HO
    iexact Hins

theorem keeps : Keeps m c t X hX Y hY := by
  have hN := lt_of_lt_of_eq t.isLt N_0
  by_cases h0 : t.val = 0; · exact keeps_first m c t X hX Y hY h0
  by_cases hz : t.val % 8 = 0; · exact keeps_zero m c t X hX Y hY h0 hz
  by_cases h7 : t.val % 8 ≠ 7; · exact keeps_mid m c t X hX Y hY hz h7
  by_cases ha : t.val = 7; · exact keeps_send0 m c t X hX Y hY ha
  by_cases hb : t.val = 15; · exact keeps_send1 m c t X hX Y hY hb
  by_cases hc : t.val = 23; · exact keeps_send2 m c t X hX Y hY hc
  exact keeps_last m c t X hX Y hY (by omega)

end Cert.KernelIdeal.Ring

end
-- ==== Proof.Region.lean ====
/-
  The kernel's region: what it is entered from, how its own semaphores join the protocol at entry, what it leaves.
-/
module

public import proofs.«01_k».proof.Proof.Points
public import proofs.«01_k».proof.Proof.Gen.KernelIdeal.Regions

@[expose] public section

set_option maxRecDepth 16384

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

/-! ## The receive buffer as its three slots -/

theorem slot_set (p : Fin 3) : (slotM p).view.set = (Rect.unit (s := S3x2048x1024) ![p.val, 0, 0] S1x2048x1024.size (slot_inb p)).set :=
  (View.set_reshape _ _).trans (View.set_slice_whole main_v6_1 _)

theorem slots_disjoint (p q : Fin 3) (h : p ≠ q) : Disjoint (slotM p).view.set (slotM q).view.set := by
  rw [slot_set, slot_set, Finset.disjoint_left]
  intro i hi hj
  have h1 := Rect.mem_set_unit.mp hi 0
  have h2 := Rect.mem_set_unit.mp hj 0
  have e1 : p.val ≤ (i 0).val ∧ (i 0).val < p.val + 1 := h1
  have e2 : q.val ≤ (i 0).val ∧ (i 0).val < q.val + 1 := h2
  exact h (Fin.ext (by omega))

theorem slots_of (c : Dev nD) (f : S3x2048x1024.Idx → Elt F .bf16) :
    (((c : Thread nD τ).loc main_v6_1 ↦{fullShare} f : sProp (MM F))) ⊢ iprop(slotPts 0 c f ∗ slotPts 1 c f ∗ slotPts 2 c f) := by
  have h01 : (slotM 1).view.set ⊆ Finset.univ \ (slotM 0).view.set :=
    Finset.subset_sdiff.mpr ⟨Finset.subset_univ _, slots_disjoint 1 0 (by decide)⟩
  have h2 : (slotM 2).view.set ⊆ (Finset.univ \ (slotM 0).view.set) \ (slotM 1).view.set :=
    Finset.subset_sdiff.mpr ⟨Finset.subset_sdiff.mpr ⟨Finset.subset_univ _, slots_disjoint 2 0 (by decide)⟩, slots_disjoint 2 1 (by decide)⟩
  iintro H
  ihave H0 := (pointsTo_split_subset (Finset.subset_univ (slotM 0).view.set)).1 $$ H
  icases H0 with ⟨H0, H⟩
  ihave H1 := (pointsTo_split_subset h01).1 $$ H
  icases H1 with ⟨H1, H⟩
  ihave H2 := (pointsTo_split_subset h2).1 $$ H
  icases H2 with ⟨H2, -⟩
  isplitl [H0]; · iexact H0
  isplitl [H1]; · iexact H1
  iexact H2

/-! ## The kernel's own semaphores, and the protocol's cells among them opened -/

abbrev osem : Fin 7 → SemLoc sig := ![.dma (sendS 0), .dma (sendS 1), .dma (sendS 2), .dma (recvS 0), .dma (recvS 1), .dma (recvS 2), .dma locS]

theorem ownSems_eq (c : Dev nD) :
    (Pipeline.ownSems0 (Ix := Unit) (Name := ℕ) (U := UU) (Lvl := ℕ) (Val := Elt F) (τ := τ) osem c : sProp (MM F))
      = iprop(semVal (sendCell 0 c) 0 ∗ semVal (sendCell 1 c) 0 ∗ semVal (sendCell 2 c) 0
          ∗ semVal (recvCell 0 c) 0 ∗ semVal (recvCell 1 c) 0 ∗ semVal (recvCell 2 c) 0 ∗ semVal (locCell c) 0) :=
  Pipeline.ownSems0_eq_of_list c osem [0, 1, 2, 3, 4, 5, 6] (by decide) (by decide)

variable (m : (ℓ : Loc nD τ sig) → Buf (Elt F) ℓ)

/-- The rights to open the two cells of phase `p`. -/
def rights (p : Fin 3) (c : Dev nD) : sProp (MM F) := iprop(openTok ER (sendCell p c) ∗ openTok ER (recvCell p c))
/-- The tokens of the duties that device `c` pays in phase `p`. -/
def pays (p : Fin 3) (c : Dev nD) : sProp (MM F) :=
  iprop(dutyTok ER (barCell (src p c)) 0 p ∗ dutyTok ER (sendCell p c) 0 0 ∗ dutyTok ER (recvCell p (tgt p c)) 0 0)

/-- What a device brings from launch. -/
def brings (c : Dev nD) : sProp (MM F) :=
  iprop((∃ K, invs (sent m) K c) ∗ (□ ∀ p, reached ER (barCell (src p c)) 0)
    ∗ (atPos ER (barCell c) 0 ∅ 0 ∗ (rights 0 c ∗ rights 1 c ∗ rights 2 c) ∗ (pays 0 c ∗ pays 1 c ∗ pays 2 c))
    ∗ (cred (tallyAt (barCell c) () 3) ∗ cred (tallyAt (recvCell 0 c) () N) ∗ cred (tallyAt (recvCell 1 c) () N) ∗ cred (tallyAt (recvCell 2 c) () N)))

theorem open_phase (S : Sent F) (K : GSem nD τ sig → ℕ) (p : Fin 3) (c : Dev nD) :
    iprop(invs S K c ∗ rights p c ∗ semVal (sendCell p c) 0 ∗ semVal (recvCell p c) 0)
      ⊢ |={Set.univ}=> iprop((atPos ER (sendCell p c) 0 ∅ 0 ∗ reached ER (sendCell p c) 0) ∗ (atPos ER (recvCell p c) 0 ∅ 0 ∗ reached ER (recvCell p c) 0)) := by
  unfold invs rights
  iintro ⟨⟨-, #HS, #HR, -, -⟩, ⟨Ho1, Ho2⟩, Hs, Hr⟩
  ihave #HSp := HS $$ %p
  ihave #HRp := HR $$ %p
  imod (Rounds.cell_open ER (Rd S) (g := sendCell p c) (Set.mem_univ (K (sendCell p c)))) $$ [Ho1 Hs] with ⟨H1, #H2⟩
  · isplitr; · iexact HSp
    isplitl [Ho1] <;> iassumption
  imod (Rounds.cell_open ER (Rd S) (g := recvCell p c) (Set.mem_univ (K (recvCell p c)))) $$ [Ho2 Hr] with ⟨H3, #H4⟩
  · isplitr; · iexact HRp
    isplitl [Ho2] <;> iassumption
  imodintro
  isplitl [H1]
  · isplitl [H1]; · iexact H1
    iexact H2
  · isplitl [H3]; · iexact H3
    iexact H4

/-- What enters the invariant, the scratch buffers aside. -/
def enters (c : Dev nD) : sProp (MM F) :=
  iprop(common m c ∗ (cred (tallyAt (barCell c) () 3) ∗ atPos ER (barCell c) 0 ∅ 0) ∗ (meet 0 c ∗ meet 1 c ∗ meet 2 c)
    ∗ (unmet 0 c ∗ unmet 1 c ∗ unmet 2 c) ∗ (awaited 0 c ∗ awaited 1 c ∗ awaited 2 c)
    ∗ (∃ f, outPts c f) ∗ semVal (locCell c) 0)

/-- One phase's share of the entry. -/
theorem enter_phase (p : Fin 3) (c : Dev nD) (f : S3x2048x1024.Idx → Elt F .bf16) :
    iprop(pays p c ∗ slotPts p c f ∗ cred (tallyAt (recvCell p c) () N) ∗ (□ ∀ p, reached ER (barCell (src p c)) 0)
        ∗ ((atPos ER (sendCell p c) 0 ∅ 0 ∗ reached ER (sendCell p c) 0) ∗ (atPos ER (recvCell p c) 0 ∅ 0 ∗ reached ER (recvCell p c) 0)))
      ⊢ (iprop(meet p c ∗ unmet p c ∗ awaited p c) : sProp (MM F)) := by
  unfold pays meet unmet awaited
  iintro ⟨⟨Ht1, Ht2, Ht3⟩, Hf, Hc, #Hb, ⟨Hs, #Hs'⟩, ⟨Hr, #Hr'⟩⟩
  ihave #Hbp := Hb $$ %p
  isplitl [Ht1 Hf]
  · isplitl [Ht1]; · iexact Ht1
    isplitl [Hf]; · iexists f; iexact Hf
    isplitr; · iexact Hr'
    iexact Hbp
  isplitl [Ht2 Ht3 Hs]
  · isplitl [Ht2]; · iexact Ht2
    isplitl [Ht3]; · iexact Ht3
    isplitl [Hs]; · iexact Hs
    iexact Hs'
  · isplitl [Hc]; · iexact Hc
    iexact Hr

theorem enter (c : Dev nD) (f : S3x2048x1024.Idx → Elt F .bf16) (g : S8192x1024.Idx → Elt F .f32) :
    iprop(brings m c ∗ Pipeline.ownSems0 (τ := τ) osem c ∗ levAts L lv ∗ ((c : Thread nD τ).loc main_v6_1 ↦{fullShare} f) ∗ outPts c g)
      ⊢ (|={Set.univ}=> enters m c : sProp (MM F)) := by
  rw [ownSems_eq]
  unfold brings enters common
  iintro ⟨⟨⟨%K, #HI⟩, #Hb, ⟨Hat, ⟨Hr0, Hr1, Hr2⟩, ⟨Hp0, Hp1, Hp2⟩⟩, ⟨HcB, Hc0, Hc1, Hc2⟩⟩, ⟨Hs0, Hs1, Hs2, Hv0, Hv1, Hv2, Hl⟩, #Hlev, Hf, Hg⟩
  ihave Hf' := (slots_of c f) $$ Hf
  icases Hf' with ⟨Hf0, Hf1, Hf2⟩
  imod (open_phase (sent m) K 0 c) $$ [Hr0 Hs0 Hv0] with Ho0
  · isplitr; · iexact HI
    isplitl [Hr0]; · iexact Hr0
    isplitl [Hs0] <;> iassumption
  imod (open_phase (sent m) K 1 c) $$ [Hr1 Hs1 Hv1] with Ho1
  · isplitr; · iexact HI
    isplitl [Hr1]; · iexact Hr1
    isplitl [Hs1] <;> iassumption
  imod (open_phase (sent m) K 2 c) $$ [Hr2 Hs2 Hv2] with Ho2
  · isplitr; · iexact HI
    isplitl [Hr2]; · iexact Hr2
    isplitl [Hs2] <;> iassumption
  ihave H0 := (enter_phase 0 c f) $$ [Hp0 Hf0 Hc0 Ho0]
  · isplitl [Hp0]; · iexact Hp0
    isplitl [Hf0]; · iexact Hf0
    isplitl [Hc0]; · iexact Hc0
    isplitr; · iexact Hb
    iexact Ho0
  ihave H1 := (enter_phase 1 c f) $$ [Hp1 Hf1 Hc1 Ho1]
  · isplitl [Hp1]; · iexact Hp1
    isplitl [Hf1]; · iexact Hf1
    isplitl [Hc1]; · iexact Hc1
    isplitr; · iexact Hb
    iexact Ho1
  ihave H2 := (enter_phase 2 c f) $$ [Hp2 Hf2 Hc2 Ho2]
  · isplitl [Hp2]; · iexact Hp2
    isplitl [Hf2]; · iexact Hf2
    isplitl [Hc2]; · iexact Hc2
    isplitr; · iexact Hb
    iexact Ho2
  icases H0 with ⟨Hm0, Hu0, Ha0⟩
  icases H1 with ⟨Hm1, Hu1, Ha1⟩
  icases H2 with ⟨Hm2, Hu2, Ha2⟩
  imodintro
  isplitr
  · isplitr; · iexists K; iexact HI
    iexact Hlev
  isplitl [HcB Hat]; · isplitl [HcB] <;> iassumption
  isplitl [Hm0 Hm1 Hm2]
  · isplitl [Hm0]; · iexact Hm0
    isplitl [Hm1] <;> iassumption
  isplitl [Hu0 Hu1 Hu2]
  · isplitl [Hu0]; · iexact Hu0
    isplitl [Hu1] <;> iassumption
  isplitl [Ha0 Ha1 Ha2]
  · isplitl [Ha0]; · iexact Ha0
    isplitl [Ha1] <;> iassumption
  isplitl [Hg]; · iexists g; iexact Hg
  iexact Hl

/-! ## The body obligation and the waits -/

theorem owesAt_due {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    iprop(∃ W, owes (c : Thread nD τ) O W) ⊢ (dat.owesAt () t : sProp (MM F)) := by
  unfold Dat.owesAt Pipeline.owesWithin Dat.bound
  rw [h0, hr]
  iintro ⟨%W, HO⟩
  iexists W
  isplitr; · ipureintro; exact fun _ _ => Or.inl trivial
  iexact HO
theorem due_owesAt {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp (MM F)) ⊢ iprop(∃ W, owes (c : Thread nD τ) O W) := by
  unfold Dat.owesAt Pipeline.owesWithin
  rw [h0]
  iintro ⟨%W, -, HO⟩
  iexists W; iexact HO

/-- The staging buffers that the body is called with at point `t`. -/
abbrev stgX (c : Dev nD) (t : Fin grid0.N) : Memref sig .tc .vmem S2048x1024 .f32 := spec0_0.stage ((cfg0 (F := F) (adm c 0)).slots t 0)
abbrev stgY (c : Dev nD) (t : Fin grid0.N) : Memref sig .tc .vmem S1024x1024 .f32 := spec0_1.stage ((cfg0 (F := F) (adm c 0)).slots t 1)

theorem body_call (c : Dev nD) (t : Fin grid0.N) :
    defs₀ (F := F) .tc (cfg0 (F := F) (adm c 0)).body ((cfg0 (F := F) (adm c 0)).bodyArgs t ((cfg0 (F := F) (adm c 0)).slots t))
      = bodyAt (grid0.coords t) (stgX (F := F) c t) (hstage0_0 _) (stgY (F := F) c t) (hstage0_1 _) := by
  unfold defs₀
  rw [Defs.onTc_tc]

theorem found_of (c : Dev nD) (t : Fin grid0.N) (d0 d1) :
    iprop((dat0 m c).Φ t.castSucc ∗ (dat0 m c).owesAt () t.castSucc
        ∗ owns (c : Thread nD τ) (stgX (F := F) c t) fullShare ((dat0 m c).before 0 t d0)
        ∗ owns (c : Thread nD τ) (stgY (F := F) c t) fullShare ((dat0 m c).before 1 t d1))
      ⊢ found m c t (stgX (F := F) c t) (stgY (F := F) c t) t.val := by
  unfold found
  exact sep_mono .rfl (sep_mono (due_owesAt (dat0 m c) t.castSucc (due c t.val) rfl)
    (sep_mono (Entails.of_eq (congrArg _ (before0 m c t d0))) (Entails.of_eq (congrArg _ (before1 m c t d1)))))

theorem left_to (c : Dev nD) (t : Fin grid0.N) :
    left m c t (stgX (F := F) c t) (stgY (F := F) c t) t.val
      ⊢ iprop((dat0 m c).Φ t.succ ∗ (dat0 m c).owesAt () t.succ
        ∗ owns (c : Thread nD τ) (stgX (F := F) c t) fullShare ((dat0 m c).after 0 t)
        ∗ owns (c : Thread nD τ) (stgY (F := F) c t) fullShare ((dat0 m c).after 1 t)) := by
  unfold left
  exact sep_mono .rfl (sep_mono (owesAt_due (dat0 m c) t.succ (due c (t.val + 1)) rfl rfl) .rfl)

theorem body_obligation (c : Dev nD) : BodyObligation (dat0 m c) defs₀ 𝒱₀ () Set.univ := fun t => by
  rw [bigSep_W0, bigSep_W0, body_call]
  iintro ⟨HΦ, HO, ⟨%d0, Hx⟩, ⟨%d1, Hy⟩⟩
  iapply ((found_of m c t d0 d1).trans ((keeps m c t _ (hstage0_0 _) _ (hstage0_1 _)).trans (wp_mono _ _ _ fun _ => left_to m c t)))
  isplitl [HΦ]; · iexact HΦ
  isplitl [HO]; · iexact HO
  isplitl [Hx]; · iexact Hx
  iexact Hy

/-! ## What the host operations leave -/

theorem word_bits : ∀ (c : Dev nD) (h : S_.ShapeCasts S1) (i : S1.Idx),
    shapeCast (α := BitVec 32) S1 (Host.remui (Host.divui (constantI S_ 32 (Dev.word c)) (constantI S_ 32 1#32)) (constantI S_ 32 4#32)) h i
      = Dev.word c := by decide +kernel

theorem table_at (c : Dev nD) : V1 m c main_v5 = fun _ => Dev.word c := by
  unfold V1 hostOps0
  simp only [StableHlo.after_cons, StableHlo.after_nil]
  rw [StableHlo.reshape_result, StableHlo.unary_result, StableHlo.binary_result, StableHlo.binary_result,
    StableHlo.binary_result_ne (r := main_c_0) (h := by decide),
    StableHlo.nullary_result, StableHlo.nullary_result_ne (r := main_c) (h := by decide), StableHlo.nullary_result_ne (r := main_c) (h := by decide),
    StableHlo.nullary_result, StableHlo.nullary_result_ne (r := main_c_0) (h := by decide), StableHlo.nullary_result]
  exact funext fun i => word_bits c shapeCasts_S_S1 i

theorem table_eq (c : Dev nD) : (fun k => V1 m c (pre0.ref k) : pre0.Contents (Elt F)) = me c := by
  funext k
  match k with
  | 0 => exact table_at m c

/-! ## The region -/

theorem share_full (c : Dev nD) (w : Fin (cfg0 (adm (F := F) c 0)).W) : (dat0 m c).share w = fullShare :=
  Dat.share_full (dat0 m c) (fun _ => rfl) w

theorem arrays_at (c : Dev nD) (w : Fin (cfg0 (adm (F := F) c 0)).W) : (dat0 m c).A w = V1 m c (Pipeline.arrRef spec0 w) := by
  match w with
  | ⟨0, _⟩ => exact (V1_of m c main_arg0 (by decide)).symm
  | ⟨1, _⟩ => exact (V1_of m c main_arg1 (by decide)).symm

theorem staging_lv : ∀ (w : Fin 2) (s : Fin (spec0 w).nbuf), (![0, 1, 2, 2, 2, 3, 3, 3] : Fin 8 → ℕ) (kind (.dma ((spec0 w).sem s))) = 0 := by decide

theorem mayWait_due (c : Dev nD) (sm : SemLoc sig) (n : ℕ) (h : lv ((c : Thread nD τ), sm) () = 0) :
    (levAts L lv : sProp (MM F)) ⊢ MayWait (c : Thread nD τ) sm () (due c n) := by
  by_cases hn : n = 0
  · rw [hn, due_zero]; exact mayWait_O₀ c sm h
  · rw [due_pos c n hn]; exact mayWait_owe c sm _ (h.le.trans (Nat.zero_le _))

/-- Each device's pipeline, its table the device's number. -/
abbrev admD : Dev nD → (p : Fin 1) → (pcfgs (F := F) p).Adm := fun c => adm c

theorem waits (c : Dev nD) : (levAts L lv : sProp (MM F)) ⊢ Pipeline.PerCore.cellsWaits (Pipeline.pinD (pcfgs (F := F)) admD) (pdats m) () 0 c :=
  Pipeline.PerCore.cellsWaits_intro (Pipeline.pinD (pcfgs (F := F)) admD) (pdats m) () 0 c fun w s t =>
    mayWait_due c (.dma (((Pipeline.pinD (pcfgs (F := F)) admD c 0).win w).sem s)) t.val (staging_lv w s)

/-- What rides along the host operations: what the device brings, and its dues. -/
def rides (c : Dev nD) : sProp (MM F) := iprop(brings m c ∗ ∃ W, owes (c : Thread nD τ) (O₀ c) W)

/-- What the kernel leaves in the result, and its barrier's counter. -/
def leaves (c : Dev nD) : sProp (MM F) :=
  iprop((∃ f, outPts c (outFin (sent m) c (part m c 31) f)) ∗ semVal (barCell c) 0)

theorem entry (c : Dev nD) :
    iprop((StableHlo.held (c : Thread nD τ) (Pipeline.ucRefs τ sig) (V1 m c) ∗ rides m c) ∗ Pipeline.ownSems0 (τ := τ) osem c ∗ levAts L lv)
      ⊢ (|={Set.univ}=> iprop((dat0 m c).arrays ((dat0 m c).arrAt · 0) ∗ Pipeline.prefHeld pre0 c (fun _ => fullShare) (me c)
        ∗ (dat0 m c).owesAt () 0 ∗ enters m c ∗ emp) : sProp (MM F)) := by
  have h := Pipeline.PerCore.arrays_of_unscopedBufs (p := 0) (pcfgs (F := F)) admD (pdats m) winFacts0 arr_whole0 c (share_full m c) (fun b => V1 m c b) (arrays_at m c)
  have h' := Pipeline.unscopedRest_split (Ix := Unit) (Val := Elt F) (Name := ℕ) (U := UU) (Lvl := ℕ) preFacts0 c (fun b => V1 m c b)
  rw [table_eq, unscopedRestP0_eq] at h'
  rw [← Pipeline.unscopedBufs_held]
  unfold rides
  iintro ⟨⟨HB, Hbr, HO⟩, Hs, #Hlev⟩
  ihave H := h $$ HB
  icases H with ⟨HA, HR⟩
  ihave HR' := (Entails.of_eq h') $$ HR
  icases HR' with ⟨Hpre, -, -, -, -, -, -, Hout, Hland⟩
  imod (enter m c _ _) $$ [Hbr Hs Hout Hland] with He
  · isplitl [Hbr]; · iexact Hbr
    isplitl [Hs]; · iexact Hs
    isplitr; · iexact Hlev
    isplitl [Hland]; · iexact Hland
    iexact Hout
  imodintro
  isplitl [HA]; · iexact HA
  isplitl [Hpre]; · iexact Hpre
  isplitl [HO]
  · iapply (owesAt_due (dat0 m c) 0 (O₀ c) (due_zero c) rfl); iexact HO
  isplitl [He]; · iexact He
  iempintro

theorem enter_inv (c : Dev nD) :
    iprop(enters m c ∗ Pipeline.prefHeld pre0 c (fun _ => fullShare) (me c) ∗ Pipeline.scopedRest spec0 c) ⊢ (dat0 m c).Φ 0 := by
  show _ ⊢ Inv m c 0
  rw [Inv_zero, scopedRest0_eq]
  unfold enters first
  iintro ⟨⟨Hc, Hb, Hm, Hu, Haw, Hf, Hl⟩, -, Ha, Hg⟩
  isplitl [Hc]; · iexact Hc
  isplitl [Hb]; · iexact Hb
  isplitl [Hm]; · iexact Hm
  isplitl [Hu]; · iexact Hu
  isplitl [Haw]; · iexact Haw
  isplitl [Ha]; · iexact Ha
  isplitl [Hg]; · iexact Hg
  isplitl [Hf]; · iexact Hf
  iexact Hl

theorem leave_inv (c : Dev nD) :
    (dat0 m c).Φ (Fin.last _) ⊢ iprop(leaves m c ∗ Pipeline.ownSems0 (τ := τ) osem c ∗ Pipeline.scopedRest spec0 c) := by
  show Inv m c grid0.N ⊢ _
  rw [N_0, Inv_last, scopedRest0_eq, ownSems_eq]
  unfold leaves final
  iintro ⟨Ha, Hg, Hf, ⟨Hs0, Hs1, Hs2⟩, ⟨Hr0, Hr1, Hr2⟩, Hl, Hb⟩
  isplitl [Hf Hb]; · isplitl [Hf] <;> iassumption
  isplitl [Hs0 Hs1 Hs2 Hr0 Hr1 Hr2 Hl]
  · isplitl [Hs0]; · iexact Hs0
    isplitl [Hs1]; · iexact Hs1
    isplitl [Hs2]; · iexact Hs2
    isplitl [Hr0]; · iexact Hr0
    isplitl [Hr1]; · iexact Hr1
    isplitl [Hr2]; · iexact Hr2
    iexact Hl
  isplitl [Ha] <;> iassumption

theorem due_last (c : Dev nD) : due c grid0.N = 0 := by
  rw [N_0, due_pos c 32 (by decide)]; exact owe_3 c

/-- What is left on a device: the operands as launched, the result, its barrier's counter, nothing owed. -/
def leavesAll (c : Dev nD) : sProp (MM F) :=
  iprop(((dat0 m c).arrays ((dat0 m c).arrAt · grid0.N) ∗ leaves m c) ∗ ∃ W, owes (c : Thread nD τ) (0 : CellTallies nD τ sig Unit) W)

theorem own_facts : Pipeline.OwnSemFacts spec0 osem := by decide

theorem owed_last (c : Dev nD) : (dat0 m c).owed (Fin.last grid0.N) = 0 := by
  have h : ∀ t, (dat0 m c).owed t = due c t.val := fun t => rfl
  rw [h]; exact due_last c

def region : Pipeline.PerCore.RegionSeg (pcfgs (F := F)) admD (pdats m) () defs₀ 𝒱₀ L lv 0 where
  win := winFacts0.to₀
  block_pos := block_pos0
  stage_whole := stage_whole0
  K := Fin 7
  osem := osem
  ho := own_facts
  hbody c := (body_obligation m c).loose
  hwaits c := waits m c
  pre c := iprop(StableHlo.held (c : Thread nD τ) (Pipeline.ucRefs τ sig) (V1 m c) ∗ rides m c)
  post c := leavesAll m c
  X c := enters m c
  Y c := leaves m c
  Z _ := iprop(emp)
  hentry c := entry m c
  hin c := enter_inv m c
  hout c := leave_inv m c
  hexit c := by
    show iprop((dat0 m c).arrays ((dat0 m c).arrAt · grid0.N) ∗ (dat0 m c).owesAt () (Fin.last grid0.N) ∗ leaves m c ∗ emp) ⊢ |={Set.univ}=> leavesAll m c
    unfold leavesAll
    iintro ⟨HA, HO, HY, -⟩
    imodintro
    isplitl [HA HY]; · isplitl [HA] <;> iassumption
    iapply (due_owesAt (dat0 m c) (Fin.last grid0.N) 0 (owed_last m c)); iexact HO

end Cert.KernelIdeal.Ring

end
-- ==== Proof.Launch.lean ====
/-
  The launch: every cell's invariant allocated, the kernel's own cells dormant, the tokens handed to the devices that pay,
  the credits to the devices that wait; and the run of the whole program.
-/
module

public import proofs.«01_k».proof.Proof.Region

@[expose] public section

set_option maxRecDepth 16384

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

/-! ## The cells and the tokens -/

/-- The two cells of a phase. -/
abbrev csem (k : Fin 3 × Fin 2) : SemLoc sig := if k.2 = 0 then .dma (sendS k.1) else .dma (recvS k.1)
theorem csem_inj : Function.Injective csem := by decide
theorem csem_ne_bar : ∀ k, csem k ≠ .reg barS := by decide

def barEmb : Dev nD ↪ GSem nD τ sig := ⟨fun c => barCell c, fun _ _ h => congrArg (fun g : GSem nD τ sig => g.1.1) h⟩
def phaseEmb : Dev nD × (Fin 3 × Fin 2) ↪ GSem nD τ sig :=
  ⟨fun ck => ((ck.1 : Thread nD τ), csem ck.2), fun _ _ h =>
    Prod.ext (congrArg (fun g : GSem nD τ sig => g.1.1) h) (csem_inj (congrArg Prod.snd h))⟩

abbrev barCells : Finset (GSem nD τ sig) := Finset.univ.map barEmb
abbrev phaseCells : Finset (GSem nD τ sig) := Finset.univ.map phaseEmb
abbrev allCells : Finset (GSem nD τ sig) := barCells ∪ phaseCells

/-- The duties of phase `k.1`: at the barrier, at the send cell, at the receive cell. -/
abbrev tsem (k : Fin 3 × Fin 3) : SemLoc sig := if k.2 = 0 then .reg barS else if k.2 = 1 then .dma (sendS k.1) else .dma (recvS k.1)
abbrev tduty (k : Fin 3 × Fin 3) : Du := if k.2 = 0 then k.1 else 0
theorem tk_inj : Function.Injective (fun k : Fin 3 × Fin 3 => (tsem k, tduty k)) := by decide
def tokens : Finset (GSem nD τ sig × ℕ × Du) :=
  Finset.univ.map ⟨fun ck : Dev nD × (Fin 3 × Fin 3) => (((ck.1 : Thread nD τ), tsem ck.2), 0, tduty ck.2), fun _ _ h =>
    Prod.ext (congrArg (fun t : GSem nD τ sig × ℕ × Du => t.1.1.1) h)
      (tk_inj (Prod.ext (congrArg (fun t : GSem nD τ sig × ℕ × Du => t.1.2) h) (congrArg (fun t : GSem nD τ sig × ℕ × Du => t.2.2) h)))⟩

theorem disjoint_cells : Disjoint (barCells : Finset (GSem nD τ sig)) phaseCells := by
  rw [Finset.disjoint_left]
  rintro g h₁ h₂
  obtain ⟨c, -, rfl⟩ := Finset.mem_map.mp h₁
  obtain ⟨ck, -, h⟩ := Finset.mem_map.mp h₂
  exact csem_ne_bar ck.2 (congrArg Prod.snd h)

theorem bar_mem (c : Dev nD) : barCell c ∈ allCells := Finset.mem_union_left _ (Finset.mem_map_of_mem barEmb (Finset.mem_univ c))
theorem send_mem (p : Fin 3) (c : Dev nD) : sendCell p c ∈ allCells :=
  Finset.mem_union_right _ (Finset.mem_map_of_mem phaseEmb (Finset.mem_univ (c, (p, (0 : Fin 2)))))
theorem recv_mem (p : Fin 3) (c : Dev nD) : recvCell p c ∈ allCells :=
  Finset.mem_union_right _ (Finset.mem_map_of_mem phaseEmb (Finset.mem_univ (c, (p, (1 : Fin 2)))))

theorem bigSep_three (Φ : Fin 3 → sProp (MM F)) : bigSep Finset.univ Φ = iprop(Φ 0 ∗ Φ 1 ∗ Φ 2) :=
  bigSep_univ_eq_bigSepL [0, 1, 2] (by decide) (by decide) _

theorem pair_up {Φ Ψ : Dev nD → sProp (MM F)} :
    iprop(bigSep Finset.univ Φ ∗ bigSep Finset.univ Ψ) ⊢ bigSep Finset.univ (fun c => iprop(Φ c ∗ Ψ c)) := Entails.of_eq (bigSep_sep _ _ _).symm
theorem pair_off {Φ Ψ : Dev nD → sProp (MM F)} :
    bigSep Finset.univ (fun c => iprop(Φ c ∗ Ψ c)) ⊢ iprop(bigSep Finset.univ Φ ∗ bigSep Finset.univ Ψ) := Entails.of_eq (bigSep_sep _ _ _)

/-- The tokens of the duties at device `c`'s own cells, by phase. -/
def own (p : Fin 3) (c : Dev nD) : sProp (MM F) :=
  iprop(dutyTok ER (barCell c) 0 p ∗ dutyTok ER (sendCell p c) 0 0 ∗ dutyTok ER (recvCell p c) 0 0)

theorem tokens_eq : bigSep tokens (fun x => (dutyTok ER x.1 x.2.1 x.2.2 : sProp (MM F)))
    = bigSep Finset.univ fun c : Dev nD => iprop(own 0 c ∗ own 1 c ∗ own 2 c) := by
  unfold tokens; rw [bigSep_map, bigSep_univ_prod]
  refine bigSep_congr fun c _ => ?_
  rw [bigSep_univ_prod, bigSep_three]
  unfold own
  rw [bigSep_three, bigSep_three, bigSep_three]
  rfl

/-- Each barrier and receive token handed to the device that pays it. -/
theorem own_to_pays (p : Fin 3) : (bigSep Finset.univ fun c : Dev nD => (own p c : sProp (MM F))) = bigSep Finset.univ fun c : Dev nD => pays p c := by
  unfold own pays
  rw [bigSep_sep', bigSep_sep', bigSep_sep', bigSep_sep', bigSep_univ_equiv (ring p).symm (fun c : Dev nD => (dutyTok ER (barCell c) 0 p : sProp (MM F))),
    bigSep_univ_equiv (ring p) (fun c : Dev nD => (dutyTok ER (recvCell p c) 0 0 : sProp (MM F)))]
  rfl

theorem tokens_around : (bigSep tokens (fun x => (dutyTok ER x.1 x.2.1 x.2.2 : sProp (MM F))))
    ⊢ bigSep Finset.univ fun c : Dev nD => iprop(pays 0 c ∗ pays 1 c ∗ pays 2 c) := by
  rw [tokens_eq, bigSep_sep', bigSep_sep', bigSep_sep', bigSep_sep', own_to_pays, own_to_pays, own_to_pays]

theorem rights_eq : bigSep phaseCells (fun g => (openTok ER g : sProp (MM F)))
    = bigSep Finset.univ fun c : Dev nD => iprop(rights 0 c ∗ rights 1 c ∗ rights 2 c) := by
  rw [bigSep_map, bigSep_univ_prod]
  refine bigSep_congr fun c _ => ?_
  rw [bigSep_univ_prod, bigSep_three]
  unfold rights
  rw [BI.bigSep_fin_two, BI.bigSep_fin_two, BI.bigSep_fin_two]
  rfl

/-! ## The credits -/

theorem unit_at (p : Fin 3) (d c : Dev nD) : (tallyAt (barCell (src p d)) () 1 : CellTallies nD τ sig Unit) (barCell c) () = if d = tgt p c then 1 else 0 := by
  rw [tallyAt_apply]
  by_cases h : d = tgt p c
  · subst h; rw [src_tgt, if_pos ⟨rfl, rfl⟩, if_pos rfl]
  · rw [if_neg h, if_neg]
    rintro ⟨h1, -⟩
    have e : c = src p d := congrArg (fun g : GSem nD τ sig => g.1.1) h1
    exact h (by rw [e, tgt_src])

theorem block_at (p q : Fin 3) (d c : Dev nD) : (tallyAt (recvCell q (tgt q d)) () N : CellTallies nD τ sig Unit) (recvCell p c) ()
    = if q = p then (if d = src p c then N else 0) else 0 := by
  rw [tallyAt_apply]
  by_cases hq : q = p
  · subst hq
    rw [if_pos rfl]
    by_cases h : d = src q c
    · subst h; rw [tgt_src, if_pos ⟨rfl, rfl⟩, if_pos rfl]
    · rw [if_neg h, if_neg]
      rintro ⟨h1, -⟩
      have e : c = tgt q d := congrArg (fun g : GSem nD τ sig => g.1.1) h1
      exact h (by rw [e, src_tgt])
  · rw [if_neg hq, if_neg]
    rintro ⟨h1, -⟩
    have e : recvS p = recvS q := SemLoc.dma.inj (congrArg Prod.snd h1)
    exact hq (Fin.ext (by have := congrArg Fin.val e; simp only [] at this; omega))

theorem recv_ne_bar (p : Fin 3) (c d : Dev nD) : recvCell p c ≠ barCell d := fun h => nomatch congrArg Prod.snd h

theorem owed_bar (d c : Dev nD) : O₀ d (barCell c) ()
    = (if d = tgt 1 c then 1 else 0) + (if d = tgt 0 c then 1 else 0) + (if d = tgt 2 c then 1 else 0) := by
  unfold O₀
  rw [owe_0]
  simp only [Pi.add_apply, Finsupp.add_apply, unit_at]
  rw [tallyAt_ne_cell (recv_ne_bar 2 _ _).symm, tallyAt_ne_cell (recv_ne_bar 1 _ _).symm, tallyAt_ne_cell (recv_ne_bar 0 _ _).symm]
  simp only [Finsupp.zero_apply, Nat.zero_add]

theorem owed_recv (p : Fin 3) (d c : Dev nD) : O₀ d (recvCell p c) () = if d = src p c then N else 0 := by
  unfold O₀
  rw [owe_0]
  simp only [Pi.add_apply, Finsupp.add_apply]
  rw [block_at p 2, block_at p 1, block_at p 0, tallyAt_ne_cell (recv_ne_bar p _ _), tallyAt_ne_cell (recv_ne_bar p _ _), tallyAt_ne_cell (recv_ne_bar p _ _)]
  simp only [Finsupp.zero_apply, Nat.add_zero]
  fin_cases p <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, Finset.sum_ite_eq', Finset.mem_univ, if_true]

theorem launch_recv (p : Fin 3) (c : Dev nD) :
    tallyOn (recvCell p c) (launchCredit (Pipeline.owing O₀) 0 (recvCell p c)) = (tallyAt (recvCell p c) () N : CellTallies nD τ sig Unit) := by
  unfold tallyAt; refine congrArg _ (Finsupp.ext fun u => ?_); cases u
  rw [Pipeline.launchCredit_owing, Finsupp.single_eq_same, Finset.sum_congr rfl fun d _ => owed_recv p d c, Finset.sum_ite_eq' Finset.univ (src p c) fun _ => N,
    if_pos (Finset.mem_univ _)]

theorem creds (c : Dev nD) : (Pipeline.launchCred O₀ c : sProp (MM F))
    ⊢ iprop(cred (tallyAt (barCell c) () 3) ∗ cred (tallyAt (recvCell 0 c) () N) ∗ cred (tallyAt (recvCell 1 c) () N) ∗ cred (tallyAt (recvCell 2 c) () N)) := by
  unfold Pipeline.launchCred
  rw [← launch_bar, ← launch_recv, ← launch_recv, ← launch_recv]
  refine (BI.bigSep_subset (Finset.subset_univ [SemLoc.reg barS, .dma (recvS 0), .dma (recvS 1), .dma (recvS 2)].toFinset)).trans ?_
  exact Entails.of_eq (bigSep_eq_bigSepL_of_eq [SemLoc.reg barS, .dma (recvS 0), .dma (recvS 1), .dma (recvS 2)] rfl (by decide) _)

/-! ## The records -/

variable (m : (ℓ : Loc nD τ sig) → Buf (Elt F) ℓ) (ρ : Dev nD → PrngReg)

def records (κ : GSem nD τ sig → ℕ) : sProp (MM F) :=
  iprop((bigSep allCells fun g => cellInv ER (Rd (sent m)) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ allCells) : records m κ ⊢ cellInv ER (Rd (sent m)) (κ g) g := by
  have h : (bigSep allCells fun g => (cellInv ER (Rd (sent m)) (κ g) g : sProp (MM F))) ⊢ cellInv ER (Rd (sent m)) (κ g) g := bigSep_elim hg
  unfold records
  iintro ⟨H, -⟩
  iapply h; iexact H

theorem reached_at (κ : GSem nD τ sig → ℕ) (c : Dev nD) : records m κ ⊢ reached ER (barCell c) 0 := by
  have h : (bigSep barCells fun g => (reached ER g 0 : sProp (MM F))) ⊢ reached ER (barCell c) 0 :=
    bigSep_elim (Finset.mem_map_of_mem barEmb (Finset.mem_univ c))
  unfold records
  iintro ⟨-, H⟩
  iapply h; iexact H

theorem invs_at (κ : GSem nD τ sig → ℕ) (c : Dev nD) : records m κ ⊢ invs (sent m) κ c := by
  unfold invs
  iintro #HR
  isplitr; · iapply (inv_at m κ (bar_mem c)); iexact HR
  isplitr; · imodintro; iintro %p; iapply (inv_at m κ (send_mem p c)); iexact HR
  isplitr; · imodintro; iintro %p; iapply (inv_at m κ (recv_mem p c)); iexact HR
  isplitr; · imodintro; iintro %p; iapply (inv_at m κ (bar_mem (src p c))); iexact HR
  imodintro; iintro %p; iapply (inv_at m κ (recv_mem p (tgt p c))); iexact HR

/-! ## The launch's first thread state -/

def linear (c : Dev nD) : sProp (MM F) :=
  iprop(atPos ER (barCell c) 0 ∅ 0 ∗ (rights 0 c ∗ rights 1 c ∗ rights 2 c) ∗ (pays 0 c ∗ pays 1 c ∗ pays 2 c))

/-- What of a device's launch holdings is not the protocol's. -/
def bundle (c : Dev nD) : sProp (MM F) :=
  iprop(StableHlo.held (c : Thread nD τ) (Pipeline.ucRefs τ sig) (V0 m c)
    ∗ (cred (tallyAt (barCell c) () 3) ∗ cred (tallyAt (recvCell 0 c) () N) ∗ cred (tallyAt (recvCell 1 c) () N) ∗ cred (tallyAt (recvCell 2 c) () N))
    ∗ owes (c : Thread nD τ) (O₀ c) ∅)

abbrev T₀ (c : Dev nD) : sProp (MM F) := iprop(StableHlo.held (c : Thread nD τ) (Pipeline.ucRefs τ sig) (V0 m c) ∗ rides m c)

theorem T₀_intro (κ : GSem nD τ sig → ℕ) (c : Dev nD) : iprop(records m κ ∗ (linear c ∗ bundle m c)) ⊢ T₀ m c := by
  unfold bundle T₀ rides brings linear
  iintro ⟨#HR, Hl, Hh, Hc, HO⟩
  isplitl [Hh]; · iexact Hh
  isplitr [HO]
  · isplitr; · iexists κ; iapply (invs_at m κ c); iexact HR
    isplitr; · imodintro; iintro %p; iapply (reached_at m κ (src p c)); iexact HR
    isplitl [Hl]; · iexact Hl
    iexact Hc
  · iexists ∅; iexact HO

/-- A resource all of which is on device `0`. -/
def parked (X : sProp (MM F)) (c : Dev nD) : sProp (MM F) := if c = 0 then X else iprop(emp)
theorem bigSep_parked (X : sProp (MM F)) : bigSep Finset.univ (parked X) = X := by
  rw [bigSep_univ_at _ (0 : Dev nD), bigSep_congr (s := Finset.univ.erase (0 : Dev nD)) (Ψ := fun _ => (BI.emp : sProp (MM F)))
      fun c hc => by unfold parked; rw [if_neg (Finset.ne_of_mem_erase hc)]; rfl, BI.bigSep_emp_const]
  unfold parked; rw [if_pos rfl]
  exact BI.equiv_iff.mp sep_emp

def G : Dev nD → sProp (MM F) := parked (BI.own (ER (launchOf barCells phaseCells tokens)))

theorem unscopedSems_eq (c : Dev nD) : (unscopedSems0 c : sProp (MM F)) = semVal (barCell c) 0 := by
  unfold unscopedSems0
  rw [show (Finset.univ.filter fun sm : SemLoc sig => ¬ sm.isScoped .tc) = {SemLoc.reg barS} from by decide, BI.bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp (MM F)) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp (MM F)) := by
    rw [show (unscopedBufs c (fun b => m ((c : Thread nD τ).loc b)) : sProp (MM F)) = StableHlo.held (c : Thread nD τ) (Pipeline.ucRefs τ sig) (V0 m c) from
      Pipeline.unscopedBufs_held c (V0 m c), unscopedSems_eq]
    unfold bundle
    iintro ⟨Hh, Hus, HO, Hcr, -, HG⟩
    ihave Hc := (creds (F := F) c) $$ Hcr
    isplitl [Hh HO Hc]
    · isplitl [Hh]; · iexact Hh
      isplitl [Hc]; · iexact Hc
      iexact HO
    isplitl [Hus] <;> iassumption
  have hv : bigSep Finset.univ (fun c : Dev nD => (semVal (barCell c) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (barCell c) 0 ∅ 0 : sProp (MM F))) :=
    Entails.of_eq (bigSep_map (s := Finset.univ) barEmb (Φ := fun g : GSem nD τ sig => (atPos ER g 0 ∅ 0 : sProp (MM F))))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp (MM F)) from bigSep_mono fun c _ => hcore c) $$ H
  ihave H2 := pair_off $$ H'; icases H2 with ⟨HB, H3⟩
  ihave H4 := pair_off $$ H3; icases H4 with ⟨Hv, HG⟩
  ihave Hu := (show bigSep Finset.univ (G (F := F)) ⊢ BI.own (ER (launchOf barCells phaseCells tokens)) from Entails.of_eq (bigSep_parked _)) $$ HG
  imod (Rounds.fund_launch ER (Rd (sent m)) disjoint_cells (fun g _ h => h) tokens) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply pair_up
  isplitr [HB]
  · unfold linear
    iapply pair_up; isplitl [Hat]; · iapply hat $$ Hat
    iapply pair_up; isplitl [Hopen]; · iapply (Entails.of_eq (rights_eq (F := F))) $$ Hopen
    iapply (tokens_around (F := F)) $$ Htok
  · iexact HB

/-! ## The run -/

theorem staging_inj : Function.Injective (Pipeline.PerCore.cellOf (nD := nD) (τ := τ) (Pipeline.pinD (pcfgs (F := F)) admD)) :=
  Pipeline.PerCore.cellOf_injective _ (fun c p => by fin_cases p; exact (by decide : Pipeline.SpecSemsDistinct spec0))
    (fun c p p' h => absurd (Subsingleton.elim p p') h)

def u₀ : UU :=
  (initOf (Pipeline.PerCore.cells (Pipeline.pinD (pcfgs (F := F)) admD) staging_inj) (Pipeline.PerCore.launchToks (Pipeline.pinD (pcfgs (F := F)) admD) staging_inj),
    (launchOf barCells phaseCells tokens, 1))

/-- What each device's final memory holds. -/
def Holds (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∃ f, s.mem ((c : Thread nD τ).loc main_v6_0) = outFin (sent m) c (part m c 31) f

theorem holds_of (c : Dev nD) (s' : Phys nD τ sig (Elt F)) :
    iprop(((dat0 m c).arrays ((dat0 m c).arrAt · grid0.N) ∗ leaves m c) ∗ SI s')
      ⊢ (|={Set.univ}=> iprop(⌜Holds m c s'.mem ∧ s'.mem.sem (barCell c) = 0⌝ ∗ SI s') : sProp (MM F)) := by
  have hr := Pipeline.PerCore.arrays_read (p := 0) (pcfgs (F := F)) admD (pdats m) arr_whole0 c (share_full m c) ((dat0 m c).arrAt · grid0.N) s'
  unfold leaves
  iintro ⟨⟨HA, ⟨%f, Hf⟩, Hb⟩, HSI⟩
  ihave H := hr $$ [HA HSI]
  · isplitl [HA] <;> iassumption
  icases H with ⟨%ha, HSI⟩
  icombine HSI Hf gives %hf
  icombine HSI Hb gives %hb
  imodintro
  isplitr
  · ipureintro
    refine ⟨⟨⟨?_, ?_⟩, f, Buf.eq_of_forall_mem_univ hf⟩, by simpa using hb⟩
    · exact (ha 0).trans ((dat0 m c).arrAt_in 0 rfl grid0.N)
    · exact (ha 1).trans ((dat0 m c).arrAt_in 1 rfl grid0.N)
  iexact HSI

theorem unscoped_eq : ∀ sm : SemLoc sig, sm.isScoped .tc = false → sm = .reg barS := by decide

/-- @main on core `c` as its two items. -/
abbrev items (c : Dev nD) : List (Pipeline.PerCore.Seg (pcfgs (F := F)) admD (pdats m) () defs₀ 𝒱₀ L lv) :=
  [.host (seg0 m 𝒱₀ L lv (fun _ => rides m) c), .region (region m)]

set_option backward.isDefEq.respectTransparency.types false in
/-- Every weakly fair execution of the program from memory `m` with zero counters terminates; every final memory holds on each
    device the arguments as launched and the result the kernel's value at some earlier contents of the buffer; every counter is zero. -/
theorem run_main : θ_run defs (onTc (τ := τ) (main (F := F))) ⟨m, fun _ => 0, ρ⟩
    (fun r => (∀ c : Dev nD, Holds m c r.2) ∧ r.2.sem = fun _ => 0) :=
  Pipeline.PerCore.θ_run_regions_kit_sems (pcfgs (F := F)) admD (pdats m) () staging_inj EP defs₀ 𝒱₀ L lv m ρ main (items m)
    (fun c Q => by
      rewrite [main_chain c, Pipeline.PerCore.Seg.run_eq_chain,
        show (items m c).map Pipeline.PerCore.Seg.prog = [StableHlo.seq (hostOps0 c), Prog.lift (.customCall (Pipeline.entry 0) ())] from rfl]
      dsimp (config := { failIfUnchanged := false }) only
      exact .rfl)
    (fun c => by simp only [items, Pipeline.PerCore.Seg.pipes_host, Pipeline.PerCore.Seg.pipes_region, Pipeline.PerCore.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      ihave HX' := (own_pair_emb embR _ _) $$ HX
      icases HX' with ⟨HX, -⟩
      imodintro
      isplitl [HP]; · iexact HP
      rw [bigSep_parked]; iexact HX)
    (T₀ := T₀ m) (Tₙ := fun c => iprop((dat0 m c).arrays ((dat0 m c).arrAt · grid0.N) ∗ leaves m c))
    (hch := fun c => ⟨.rfl, .rfl, .rfl⟩)
    (hinit := init m ρ)
    (QY := fun c s => Holds m c s ∧ s.sem (barCell c) = 0)
    (hfin := fun c s' => holds_of m c s')
    (hQ := fun s h hs => ⟨fun c => (h c).1, sem_eq_zero hs fun c sm hsm => by
        obtain rfl := unscoped_eq sm hsm
        exact (h c).2⟩)

end Cert.KernelIdeal.Ring

end
-- ==== Proof.Value.lean ====
/-
  The values over the reals: the accumulator after a phase is a row of the one operand times a column of the other, summed over
  the whole contraction; the result is its gelu, at every row.
-/
module

public import proofs.«01_k».proof.Proof.Data
public import Idealize.ShloMosaic.Lib.MatmulPlain
public import Idealize.ShloMosaic.Lib.StackMember

@[expose] public section

set_option maxRecDepth 16384

noncomputable section

namespace Cert.KernelIdeal.Ring

open Idealize.ShloMosaic
open Idealize.ShloMosaic.TcCoe
open Idealize.ShloMosaic.ValueIdx
open Cert.KernelIdeal.Gen
open scoped BigOperators

/-! ## The terms of the product -/

/-- The index of a matrix at row `a` and column `b`. -/
abbrev at2 (M N : ℕ) [NeZero M] [NeZero N] (a b : ℕ) : (⟨2, ![M, N]⟩ : Shape).Idx := ix2 (Fin.ofNat M a) (Fin.ofNat N b)

/-- An index is that of its coordinates. -/
theorem at2_of {M N : ℕ} [NeZero M] [NeZero N] (i : (⟨2, ![M, N]⟩ : Shape).Idx) (a b : ℕ) (ha : (i 0).val = a) (hb : (i 1).val = b) :
    i = at2 M N a b := by
  subst ha hb
  funext d
  match d with
  | ⟨0, _⟩ => exact Fin.ext (Nat.mod_eq_of_lt (i 0).isLt).symm
  | ⟨1, _⟩ => exact Fin.ext (Nat.mod_eq_of_lt (i 1).isLt).symm

/-- Term `n` of the product of `x` and `w` at row `a` and column `b`. -/
def term {M : ℕ} [NeZero M] (x : FVec Ideal ⟨2, ![M, 8192]⟩ .f32) (w : FVec Ideal S8192x4096 .f32) (a b n : ℕ) : EReal :=
  (x (at2 M 8192 a n) : EReal) * (w (at2 8192 4096 n b) : EReal)

variable (m : (ℓ : Loc nD τ sig) → Buf (Elt Ideal) ℓ)

/-! ## The staged blocks, at an index -/

theorem xb_at (c : Dev nD) (t : Fin grid0.N) (y : S2048x1024.Idx) :
    xb m c t y = xArg m c (at2 2048 8192 (y 0).val (1024 * (t.val % 8) + (y 1).val)) := by
  refine congrArg (xArg m c) (at2_of _ _ _ ?_ ?_)
  · show cc0_transform_0 (grid0.coords t) 0 * 2048 + 1 * (y 0).val = _
    rw [block0_eq]; show 0 * 2048 + 1 * (y 0).val = _; omega
  · show cc0_transform_0 (grid0.coords t) 1 * 1024 + 1 * (y 1).val = _
    rw [block0_eq]; show (grid0.coords t 1).val * 1024 + 1 * (y 1).val = _
    rw [coord1]; omega

theorem wb_at (c : Dev nD) (t : Fin grid0.N) (p : Fin 4) (hp : t.val / 8 = p.val) (y : S1024x1024.Idx) :
    wb m c t y = wArg m c (at2 8192 4096 (1024 * (t.val % 8) + (y 0).val) (1024 * (colOf p c).val + (y 1).val)) := by
  have hc : grid0.coords t 0 = p := Fin.ext ((coord0 t).trans hp)
  refine congrArg (wArg m c) (at2_of _ _ _ ?_ ?_)
  · show cc0_transform_1 (F := Ideal) inb_S1_S1_0 numel1_S1 (me c) (grid0.coords t) 0 * 1024 + 1 * (y 0).val = _
    rw [block1_eq]; show (grid0.coords t 1).val * 1024 + 1 * (y 0).val = _
    rw [coord1]; omega
  · show cc0_transform_1 (F := Ideal) inb_S1_S1_0 numel1_S1 (me c) (grid0.coords t) 1 * 1024 + 1 * (y 1).val = _
    rw [block1_eq]; show (colOf (grid0.coords t 0) c).val * 1024 + 1 * (y 1).val = _
    rw [hc]; omega

/-! ## One point, and one phase -/

/-- A point adds to the accumulator the 1024 terms of its block of the contraction. -/
theorem step_at (c : Dev nD) (p : Fin 4) (q : ℕ) (hq : q < 8) (v : FVec Ideal S2048x1024 .f32) (y : S2048x1024.Idx) :
    (step m c (8 * p.val + q) v y : EReal)
      = v y + ∑ k ∈ Finset.range 1024, term (xArg m c) (wArg m c) (y 0).val (1024 * (colOf p c).val + (y 1).val) (1024 * q + k) := by
  have hlt := p.isLt
  have hv : (pt (8 * p.val + q)).val = 8 * p.val + q := Nat.mod_eq_of_lt (by omega)
  have hs : step m c (8 * p.val + q) v = addf v (matmul (φ₁ := .f32) (φ₂ := .f32) (DotDims.plain 2048 1024 1024) none (xb m c (pt (8 * p.val + q)))
      (wb m c (pt (8 * p.val + q))) (constant S2048x1024 .f32 0x00000000#32)) := by
    unfold step k0_pay2 k0_pay9
    simp only [shapeCast_self]
    rfl
  rw [hs]
  show (v y : EReal) + FloatOps.matmul (φ₁ := .f32) (φ₂ := .f32) (DotDims.plain 2048 1024 1024) none (xb m c (pt (8 * p.val + q)))
      (wb m c (pt (8 * p.val + q))) (constant S2048x1024 .f32 0x00000000#32) y = _
  refine congrArg ((v y : EReal) + ·) ?_
  obtain ⟨a, b, rfl⟩ : ∃ (a : Fin 2048) (b : Fin 1024), y = ix2 a b := ⟨y 0, y 1, eq_ix2 y⟩
  rw [Ideal.matmul_plain_apply]
  show Ideal.ofBits .f32 0x00000000#32 + _ = _
  rw [Ideal.ofBits_zero_f32, zero_add, Finset.sum_range]
  refine Finset.sum_congr rfl fun k _ => ?_
  rw [xb_at, wb_at m c _ p (by rw [hv]; omega), hv, show (8 * p.val + q) % 8 = q by omega]
  rfl

/-- After point `q` of phase `p` the accumulator holds the terms of the first `q + 1` blocks. -/
theorem part_at (c : Dev nD) (p : Fin 4) (y : S2048x1024.Idx) (q : ℕ) (hq : q < 8) :
    (part m c (8 * p.val + q) y : EReal)
      = ∑ n ∈ Finset.range (1024 * q + 1024), term (xArg m c) (wArg m c) (y 0).val (1024 * (colOf p c).val + (y 1).val) n := by
  induction q with
  | zero =>
    rw [part_first m c _ (by omega), step_at m c p 0 hq]
    show Ideal.ofBits .f32 0x00000000#32 + _ = _
    rw [Ideal.ofBits_zero_f32, zero_add]
    simp only [Nat.mul_zero, Nat.zero_add]
  | succ q ih =>
    rw [part_next m c _ (by omega), step_at m c p (q + 1) hq, show 8 * p.val + (q + 1) - 1 = 8 * p.val + q by omega,
      ih (by omega), show 1024 * (q + 1) = 1024 * q + 1024 by omega, Finset.sum_range_add _ (1024 * q + 1024) 1024]

/-! ## The gelu -/

/-- The gelu of one number, as the kernel computes it. -/
def gelu (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * y * y * y)))

theorem pay3_at (v : FVec Ideal S2048x1024 .f32) (y : S2048x1024.Idx) : (k0_pay3 (F := Ideal) v y : EReal) = gelu (v y) := rfl
theorem pay5_at (v : FVec Ideal S2048x1024 .f32) (y : S2048x1024.Idx) : (k0_pay5 (F := Ideal) v y : EReal) = gelu (v y) := by
  unfold k0_pay5; simp only [shapeCast_self]; rfl
theorem pay4_at (v : FVec Ideal S2048x1024 .f32) (y : S2048x1024.Idx) : (k0_pay4 (F := Ideal) v y : EReal) = gelu (v y) := by
  unfold k0_pay4; simp only [shapeCast_self]; rfl
theorem pay6_at (v : FVec Ideal S2048x1024 .bf16) (y : S2048x1024.Idx) : (k0_pay6 (F := Ideal) v y : EReal) = v y := by
  unfold k0_pay6; simp only [shapeCast_self]; rfl
theorem pay7_at (v : FVec Ideal S2048x1024 .bf16) (y : S2048x1024.Idx) : (k0_pay7 (F := Ideal) v y : EReal) = v y := by
  unfold k0_pay7; simp only [shapeCast_self]; rfl
theorem pay8_at (v : FVec Ideal S2048x1024 .bf16) (y : S2048x1024.Idx) : (k0_pay8 (F := Ideal) v y : EReal) = v y := by
  unfold k0_pay8; simp only [shapeCast_self]; rfl

/-! ## The rows of the result -/

theorem row_emb (r : Fin 4) (x : S2048x1024.Idx) : (rowM r).view.emb x = at2 8192 1024 (2048 * r.val + (x 0).val) (x 1).val := by
  refine at2_of _ _ _ ?_ ?_
  · show 2048 * r.val + 1 * (x 0).val = _; omega
  · show 0 + 1 * (x 1).val = _; omega

/-- Rows that are written hold what was written … -/
theorem setRow_hit (r : Fin 4) (f : FVec Ideal S8192x1024 .f32) (v : FVec Ideal S2048x1024 .f32) (i : S8192x1024.Idx)
    (h : (i 0).val / 2048 = r.val) : setRow (F := Ideal) r f v i = v (at2 2048 1024 ((i 0).val % 2048) (i 1).val) := by
  have h0 : (i 0).val < 8192 := idx2_lt0 i
  have h1 : (i 1).val < 1024 := idx2_lt1 i
  have e : i = (rowM r).view.emb (at2 2048 1024 ((i 0).val % 2048) (i 1).val) := by
    rw [row_emb]
    refine at2_of _ _ _ ?_ ?_
    · show _ = 2048 * r.val + (i 0).val % 2048 % 2048; omega
    · show _ = (i 1).val % 1024; omega
  conv_lhs => rw [e]
  exact View.write_emb_of_mem (v := (rowM r).view) (Val := Elt Ideal) f v (Finset.mem_univ _)

/-- … and the others are kept. -/
theorem setRow_miss (r : Fin 4) (f : FVec Ideal S8192x1024 .f32) (v : FVec Ideal S2048x1024 .f32) (i : S8192x1024.Idx)
    (h : (i 0).val / 2048 ≠ r.val) : setRow (F := Ideal) r f v i = f i := by
  refine View.write_of_not_mem (v := (rowM r).view) (Val := Elt Ideal) f v Finset.univ fun hi => h ?_
  obtain ⟨x, _, rfl⟩ := Finset.mem_map.mp hi
  rw [row_emb]
  have h0 : (x 0).val < 2048 := idx2_lt0 x
  have hr := r.isLt
  show (2048 * r.val + (x 0).val) % 8192 / 2048 = r.val
  omega

/-- Every device is this one or the source of one of its landings. -/
theorem sources : ∀ c s : Fin 4, s = c ∨ s = src 0 c ∨ s = src 1 c ∨ s = src 2 c := by decide
theorem src0_ne : ∀ c : Fin 4, (src 0 c).val ≠ c.val ∧ (src 0 c).val ≠ (src 1 c).val ∧ (src 0 c).val ≠ (src 2 c).val := by decide
theorem src1_ne : ∀ c : Fin 4, (src 1 c).val ≠ c.val ∧ (src 1 c).val ≠ (src 2 c).val := by decide
theorem src2_ne : ∀ c : Fin 4, (src 2 c).val ≠ c.val := by decide
theorem col_own : ∀ c : Fin 4, colOf 3 c = c := by decide
theorem col_src0 : ∀ c : Fin 4, colOf 0 (src 0 c) = c := by decide
theorem col_src1 : ∀ c : Fin 4, colOf 1 (src 1 c) = c := by decide
theorem col_src2 : ∀ c : Fin 4, colOf 2 (src 2 c) = c := by decide

/-- The result of device `c` at row `i 0` and column `i 1`: the row belongs to device `s`, whose block of the one operand has it. -/
theorem out_at (c s : Fin 4) (f : FVec Ideal S8192x1024 .f32) (i : S8192x1024.Idx) (h : (i 0).val / 2048 = s.val) :
    (outFin (sent m) c (part m c 31) f i : EReal)
      = gelu (∑ n ∈ Finset.range 8192, term (xArg m s) (wArg m s) ((i 0).val % 2048) (1024 * c.val + (i 1).val) n) := by
  have h1 : (i 1).val < 1024 := idx2_lt1 i
  have key : ∀ (p s' : Fin 4), colOf p s' = c → (part m s' (8 * p.val + 7) (at2 2048 1024 ((i 0).val % 2048) (i 1).val) : EReal)
      = ∑ n ∈ Finset.range 8192, term (xArg m s') (wArg m s') ((i 0).val % 2048) (1024 * c.val + (i 1).val) n := by
    intro p s' hp
    rw [part_at m s' p _ 7 (by decide), hp]
    refine Finset.sum_congr rfl fun n _ => ?_
    show term _ _ ((i 0).val % 2048 % 2048) (1024 * c.val + (i 1).val % 1024) n = _
    rw [Nat.mod_mod, Nat.mod_eq_of_lt h1]
  unfold outFin
  rcases sources c s with hs | hs | hs | hs
  · subst hs
    rw [setRow_miss _ _ _ _ (by rw [h]; exact (src2_ne _).symm), setRow_miss _ _ _ _ (by rw [h]; exact (src1_ne _).1.symm),
      setRow_miss _ _ _ _ (by rw [h]; exact (src0_ne _).1.symm), setRow_hit _ _ _ _ h, pay5_at]
    exact congrArg gelu (key 3 _ (col_own _))
  · subst hs
    rw [setRow_miss _ _ _ _ (by rw [h]; exact (src0_ne _).2.2), setRow_miss _ _ _ _ (by rw [h]; exact (src0_ne _).2.1),
      setRow_hit _ _ _ _ h, pay7_at]
    exact (pay4_at _ _).trans (congrArg gelu (key 0 _ (col_src0 _)))
  · subst hs
    rw [setRow_miss _ _ _ _ (by rw [h]; exact (src1_ne _).2), setRow_hit _ _ _ _ h, pay8_at]
    exact (pay4_at _ _).trans (congrArg gelu (key 1 _ (col_src1 _)))
  · subst hs
    rw [setRow_hit _ _ _ _ h, pay6_at]
    exact (pay4_at _ _).trans (congrArg gelu (key 2 _ (col_src2 _)))

end Cert.KernelIdeal.Ring

end
-- ==== Proof.Reference.lean ====
/-
  The reference over the reals at an index, and the equation with the kernel's result.
-/
module

public import proofs.«01_k».proof.Proof.Value
public import proofs.«01_k».proof.Proof.Gen.ReferenceIdeal.Run
public import Idealize.ShloMosaic.Lib.Layout

@[expose] public section

set_option maxRecDepth 16384

noncomputable section

namespace Cert.ReferenceIdeal.Gelu

open Idealize.ShloMosaic
open Idealize.ShloMosaic.ValueIdx
open Cert.ReferenceIdeal Cert.ReferenceIdeal.Gen
open Cert.KernelIdeal.Ring (at2 at2_of term gelu out_at outFin sent part xArg wArg)
open scoped BigOperators

/-- The gelu of an array, as the reference computes it. -/
def geluHost (y : FVec Ideal S8192x4096 .f32) : FVec Ideal S8192x4096 .f32 :=
  mulf (mulf (broadcastInDim S8192x4096 ![] bcast_S_S8192x4096 (constant S_ .f32 0x3F000000#32)) y)
    (addf (broadcastInDim S8192x4096 ![] bcast_S_S8192x4096 (constant S_ .f32 0x3F800000#32))
      (Host.tanh (mulf (broadcastInDim S8192x4096 ![] bcast_S_S8192x4096 (constant S_ .f32 0x3F4C422A#32))
        (addf y (mulf (broadcastInDim S8192x4096 ![] bcast_S_S8192x4096 (constant S_ .f32 0x3D372713#32)) (mulf (mulf y y) y))))))

/-- The reference's product. -/
def prod (x : FVec Ideal S8192x8192 .f32) (w : FVec Ideal S8192x4096 .f32) : FVec Ideal S8192x4096 .f32 :=
  Host.dotGeneral dot_S8192x8192_S8192x4096_S8192x4096_1_0_0_1_n_n none x w

/-- What the reference computes of its two arguments. -/
def result (x : FVec Ideal S8192x8192 .f32) (w : FVec Ideal S8192x4096 .f32) : FVec Ideal S8192x4096 .f32 := geluHost (prod x w)

/-- The reference's gelu at an index is the kernel's: the cube is multiplied up in another order. -/
theorem geluHost_at (y : FVec Ideal S8192x4096 .f32) (i : S8192x4096.Idx) : (geluHost y i : EReal) = gelu (y i) := by
  have h : (geluHost y i : EReal) = Ideal.ofBits .f32 0x3F000000#32 * (y i : EReal)
      * (Ideal.ofBits .f32 0x3F800000#32 + Ideal.tanh (Ideal.ofBits .f32 0x3F4C422A#32
        * ((y i : EReal) + Ideal.ofBits .f32 0x3D372713#32 * ((y i : EReal) * (y i : EReal) * (y i : EReal))))) := rfl
  rw [h]
  unfold gelu
  simp only [mul_assoc]

/-- The reference's product at an index. -/
theorem prod_at (x : FVec Ideal S8192x8192 .f32) (w : FVec Ideal S8192x4096 .f32) (i : S8192x4096.Idx) :
    (prod x w i : EReal) = ∑ n ∈ Finset.range 8192, term x w (i 0).val (i 1).val n := by
  obtain ⟨a, b, rfl⟩ : ∃ (a : Fin 8192) (b : Fin 4096), i = ix2 a b := ⟨i 0, i 1, eq_ix2 i⟩
  refine (Idealize.ShloMosaic.StackMember.dotGeneral_plain_apply (m := 8192) (n := 4096) none x w a b).trans ?_
  rw [Finset.sum_range]
  refine Finset.sum_congr rfl fun k _ => ?_
  unfold term
  rw [at2_of (ix2 a k) a.val k.val rfl rfl, at2_of (ix2 k b) k.val b.val rfl rfl]

/-- The kernel's result on device `c` is block `c`, along the columns, of the reference's. -/
theorem block_result (m : (ℓ : Loc Cert.KernelIdeal.nD Cert.KernelIdeal.τ Cert.KernelIdeal.sig) → Buf (Elt Ideal) ℓ)
    (x : FVec Ideal S8192x8192 .f32) (w : FVec Ideal S8192x4096 .f32)
    (hx : ∀ c : Fin 4, xArg m c = Layout.block ⟨2, ![2048, 8192]⟩ ⟨2, ![8192, 8192]⟩ 0 4 c x) (hw : ∀ c : Fin 4, wArg m c = w)
    (c : Fin 4) (f : FVec Ideal ⟨2, ![8192, 1024]⟩ .f32) :
    outFin (sent m) c (part m c 31) f = Layout.block ⟨2, ![8192, 1024]⟩ ⟨2, ![8192, 4096]⟩ 1 4 c (result x w) := by
  funext i
  have h0 : (i 0).val < 8192 := idx2_lt0 i
  have h1 : (i 1).val < 1024 := idx2_lt1 i
  have hs : (i 0).val / 2048 < 4 := by omega
  refine (out_at m c ⟨(i 0).val / 2048, hs⟩ f i rfl).trans ?_
  rw [hx, hw, Layout.block_apply]
  refine Eq.trans ?_ (geluHost_at _ _).symm
  refine congrArg gelu ((Finset.sum_congr rfl fun n hn => ?_).trans (prod_at x w _).symm)
  have hn' : n < 8192 := Finset.mem_range.mp hn
  unfold term
  rw [Layout.block_apply]
  have e0 : (Layout.Tiles.idx (S := ⟨2, ![8192, 1024]⟩) (T := ⟨2, ![8192, 4096]⟩) (a := 1) (k := 4) (by decide) c i 0).val = (i 0).val := rfl
  have e1 : (Layout.Tiles.idx (S := ⟨2, ![8192, 1024]⟩) (T := ⟨2, ![8192, 4096]⟩) (a := 1) (k := 4) (by decide) c i 1).val
      = c.val * 1024 + (i 1).val := rfl
  rw [e0, e1, show 1024 * c.val + (i 1).val = c.val * 1024 + (i 1).val by omega]
  refine congrArg (fun v : EReal => v * _) (congrArg x (at2_of _ _ _ ?_ ?_))
  · show (i 0).val / 2048 * 2048 + (i 0).val % 2048 % 2048 = (i 0).val; omega
  · show n % 8192 = n; omega

end Cert.ReferenceIdeal.Gelu

end
-- ==== Proof.lean ====
/-
  The claims: the frames of the kernel, of its reading over the reals and of the reference, and the values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Reference

@[expose] public section

set_option maxRecDepth 16384

noncomputable section

namespace Cert.Proof

open Idealize.ShloMosaic Idealize.SL.Sem

/-- The kernel over the reals runs and leaves its arguments and the counters as they were. -/
theorem frame_ideal : Cert.quiescent_KernelIdeal := fun m ρ _ =>
  (θ_run Cert.KernelIdeal.defs _ _).mono (fun _ h => ⟨fun c => (h.1 c).1, h.2⟩) (Cert.KernelIdeal.Ring.run_main m ρ)

/-- The kernel as printed and its reading over the reals have one body table … -/
theorem bodies_same : @Cert.Kernel.defs₀ Bits _ _ = @Cert.KernelIdeal.defs₀ Bits _ _ := by
  refine congrArg Defs.onTc ?_
  funext l x
  match l, x with
  | ⟨0, _⟩, (t, s) => rfl
theorem defs_same : @Cert.Kernel.defs Bits _ _ = @Cert.KernelIdeal.defs Bits _ _ :=
  congrArg (Pipeline.defs (@Cert.KernelIdeal.pcfgs Bits _ _)) bodies_same
/-- … and one main program. -/
theorem main_same : @Cert.Kernel.main Bits _ _ = @Cert.KernelIdeal.main Bits _ _ := rfl

/-- So does the kernel as printed. -/
theorem frame_kernel : Cert.quiescent_Kernel := by
  intro m ρ _
  rw [defs_same, main_same]
  exact (θ_run Cert.KernelIdeal.defs _ _).mono (fun _ h => ⟨fun c => (h.1 c).1, h.2⟩) (Cert.KernelIdeal.Ring.run_main (F := Bits) m ρ)

/-- And the reference, which has no counters. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the reals the result of device `c` is block `c`, along the columns, of the reference's. -/
theorem values : Cert.algebraic_KernelIdeal_ReferenceIdeal := by
  intro m ρ m' ρ' _ hagree
  refine ⟨Cert.ReferenceIdeal.Gelu.result (m' (((0 : Dev Cert.ReferenceIdeal.nD).tc : Thread _ _).loc Cert.ReferenceIdeal.main_arg0))
    (m' (((0 : Dev Cert.ReferenceIdeal.nD).tc : Thread _ _).loc Cert.ReferenceIdeal.main_arg1)), ?_, ?_⟩
  · refine (θ_run Cert.KernelIdeal.defs _ _).mono (fun _ h c => ?_) (Cert.KernelIdeal.Ring.run_main m ρ)
    obtain ⟨ha, f, hf⟩ := h.1 c
    exact ⟨hf.trans (Cert.ReferenceIdeal.Gelu.block_result m _ _ (fun d => (hagree d).1) (fun d => (hagree d).2) c f), ha.1, ha.2⟩
  · exact (θ_run Cert.ReferenceIdeal.defs _ _).mono (fun _ h => h 0) (Cert.ReferenceIdeal.Value.run m' ρ')

theorem claim : Cert.Claim :=
  ⟨Cert.Kernel.Gen.facts, Cert.KernelIdeal.Gen.facts, Cert.ReferenceIdeal.Gen.facts, frame_kernel, frame_ideal, frame_ref, trivial, values⟩

end Cert.Proof

end
